-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_finite [hPre_finite : Cert.Pre_finite.Facts] (m : (ℓ : Loc Cert.NearestIdeal.nD Cert.NearestIdeal.τ Cert.NearestIdeal.sig) → Buf (Elt Ideal) ℓ) : Prop :=
  ∀ c : Dev Cert.NearestIdeal.nD,
    (Cert.Pre_finite.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def Pre_NearestReferenceIdeal (m : (ℓ : Loc Cert.NearestReferenceIdeal.nD Cert.NearestReferenceIdeal.τ Cert.NearestReferenceIdeal.sig) → Buf (Elt Ideal) ℓ) : Prop :=
  True

def Pre_NearestReferenceIdeal_finite [hPre_finite : Cert.Pre_finite.Facts] (m : (ℓ : Loc Cert.NearestReferenceIdeal.nD Cert.NearestReferenceIdeal.τ Cert.NearestReferenceIdeal.sig) → Buf (Elt Ideal) ℓ) : Prop :=
  ∀ c : Dev Cert.NearestReferenceIdeal.nD,
    (Cert.Pre_finite.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_finite [hNearestIdeal : Cert.NearestIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestReferenceIdeal [hNearestReferenceIdeal : Cert.NearestReferenceIdeal.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_NearestReferenceIdeal_pre_finite [hNearestReferenceIdeal : Cert.NearestReferenceIdeal.Facts] [hPre_finite : Cert.Pre_finite.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal_finite m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Nearest_NearestIdeal : Prop :=
  True

def algebraic_NearestIdeal_NearestReferenceIdeal_pre_finite [hNearestIdeal : Cert.NearestIdeal.Facts] [hNearestReferenceIdeal : Cert.NearestReferenceIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestReferenceIdeal.nD Cert.NearestReferenceIdeal.τ Cert.NearestReferenceIdeal.sig) → Buf (Elt Ideal) ℓ) (g' : Dev Cert.NearestReferenceIdeal.nD → PrngReg), Pre_NearestIdeal_finite m →
    (∀ c : Dev Cert.NearestIdeal.nD,
      m' ((c.tc : Thread Cert.NearestReferenceIdeal.nD Cert.NearestReferenceIdeal.τ).loc Cert.NearestReferenceIdeal.main_arg0) = m ((c.tc : Thread Cert.NearestIdeal.nD Cert.NearestIdeal.τ).loc Cert.NearestIdeal.main_arg0)
      ∧ m' ((c.tc : Thread Cert.NearestReferenceIdeal.nD Cert.NearestReferenceIdeal.τ).loc Cert.NearestReferenceIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v3)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v3) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestReferenceIdeal.defs (F := Ideal)) (onTc (τ := Cert.NearestReferenceIdeal.τ) (Cert.NearestReferenceIdeal.main (F := Ideal))) ⟨m', fun _ => 0, g'⟩ (fun r => ∀ c : Dev Cert.NearestReferenceIdeal.nD,
          r.2.mem ((c.tc : Thread Cert.NearestReferenceIdeal.nD Cert.NearestReferenceIdeal.τ).loc Cert.NearestReferenceIdeal.main_v17) = v0 c
          ∧ r.2.mem ((c.tc : Thread Cert.NearestReferenceIdeal.nD Cert.NearestReferenceIdeal.τ).loc Cert.NearestReferenceIdeal.main_arg0) = m' ((c.tc : Thread Cert.NearestReferenceIdeal.nD Cert.NearestReferenceIdeal.τ).loc Cert.NearestReferenceIdeal.main_arg0)
          ∧ r.2.mem ((c.tc : Thread Cert.NearestReferenceIdeal.nD Cert.NearestReferenceIdeal.τ).loc Cert.NearestReferenceIdeal.main_arg1) = m' ((c.tc : Thread Cert.NearestReferenceIdeal.nD Cert.NearestReferenceIdeal.τ).loc Cert.NearestReferenceIdeal.main_arg1))

def Claim : Prop :=
  ∃ (hKernel : Cert.Kernel.Facts) (hKernelIdeal : Cert.KernelIdeal.Facts) (hReferenceIdeal : Cert.ReferenceIdeal.Facts) (hNearest : Cert.Nearest.Facts) (hNearestIdeal : Cert.NearestIdeal.Facts) (hNearestReferenceIdeal : Cert.NearestReferenceIdeal.Facts) (hPre_idx_in_rows : Cert.Pre_idx_in_rows.Facts) (hPre_finite : Cert.Pre_finite.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal) (hPre_idx_in_rows := hPre_idx_in_rows)
    ∧ quiescent_Nearest (hNearest := hNearest)
    ∧ quiescent_NearestIdeal (hNearestIdeal := hNearestIdeal)
    ∧ quiescent_NearestIdeal_pre_finite (hNearestIdeal := hNearestIdeal) (hPre_finite := hPre_finite)
    ∧ quiescent_NearestReferenceIdeal (hNearestReferenceIdeal := hNearestReferenceIdeal)
    ∧ quiescent_NearestReferenceIdeal_pre_finite (hNearestReferenceIdeal := hNearestReferenceIdeal) (hPre_finite := hPre_finite)
    ∧ preserves_Kernel_KernelIdeal
    ∧ algebraic_KernelIdeal_ReferenceIdeal (hKernelIdeal := hKernelIdeal) (hReferenceIdeal := hReferenceIdeal) (hPre_idx_in_rows := hPre_idx_in_rows)
    ∧ preserves_Nearest_NearestIdeal
    ∧ algebraic_NearestIdeal_NearestReferenceIdeal_pre_finite (hNearestIdeal := hNearestIdeal) (hNearestReferenceIdeal := hNearestReferenceIdeal) (hPre_finite := hPre_finite)
-- ==== Pre_finite.lean ====
abbrev S8x256x32x32 : Shape := ⟨4, ![8, 256, 32, 32]⟩
abbrev S8192x256 : Shape := ⟨2, ![8192, 256]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8x256x32x32 .f32) (main_arg1 : FVec F S8192x256 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Pre_idx_in_rows.lean ====
abbrev S8x256x32x32 : Shape := ⟨4, ![8, 256, 32, 32]⟩
abbrev S8192x256 : Shape := ⟨2, ![8192, 256]⟩
abbrev S8192x1 : Shape := ⟨2, ![8192, 1]⟩
abbrev S_ : Shape := ⟨0, ![]⟩

class Facts : Prop where
  bcast_S_S8192x1 : S_.BroadcastsInDim S8192x1 (![] : Fin 0 → Fin S8192x1.rank)

variable [Facts]

def fn {F : FTy → Type} [FloatOps F] (main_arg0 : FVec F S8x256x32x32 .f32) (main_arg1 : FVec F S8192x256 .f32) (main_arg2 : IVec S8192x1 32) : IVec S8192x1 1 :=
  let main_c : IVec S_ 32 := constantI S_ 32 0#32
  let main_v0 : IVec S8192x1 32 := broadcastInDim S8192x1 ![] bcast_S_S8192x1 main_c
  let main_v1 : IVec S8192x1 1 := cmpi .sge main_arg2 main_v0
  let main_c_0 : IVec S_ 32 := constantI S_ 32 8192#32
  let main_v2 : IVec S8192x1 32 := broadcastInDim S8192x1 ![] bcast_S_S8192x1 main_c_0
  let main_v3 : IVec S8192x1 1 := cmpi .slt main_arg2 main_v2
  let main_v4 : IVec S8192x1 1 := andi main_v1 main_v3
  main_v4
-- ==== Kernel.lean ====
abbrev S8x256x32x32 : Shape := ⟨4, ![8, 256, 32, 32]⟩
abbrev S8192x256 : Shape := ⟨2, ![8192, 256]⟩
abbrev S8192x1 : Shape := ⟨2, ![8192, 1]⟩
abbrev S8x32x32x256 : Shape := ⟨4, ![8, 32, 32, 256]⟩
abbrev S8192x8192 : Shape := ⟨2, ![8192, 8192]⟩
abbrev S1x8192 : Shape := ⟨2, ![1, 8192]⟩
abbrev S256x1 : Shape := ⟨2, ![256, 1]⟩
abbrev S256x8192 : Shape := ⟨2, ![256, 8192]⟩
abbrev S8192 : Shape := ⟨1, ![8192]⟩
abbrev S8192x2x128 : Shape := ⟨3, ![8192, 2, 128]⟩
abbrev S64 : Shape := ⟨1, ![64]⟩
abbrev S64x2x128 : Shape := ⟨3, ![64, 2, 128]⟩
abbrev S_ : Shape := ⟨0, ![]⟩
abbrev S1x1 : Shape := ⟨2, ![1, 1]⟩
abbrev S1x8192x256 : Shape := ⟨3, ![1, 8192, 256]⟩
abbrev S1 : Shape := ⟨1, ![1]⟩
abbrev S1x1x1 : Shape := ⟨3, ![1, 1, 1]⟩
abbrev S1x1x8192 : Shape := ⟨3, ![1, 1, 8192]⟩

abbrev nBuf : Table → Nat
  | .hbm => 18
  | .local .tc .vmem => 13
  | .local .scVector .vmem => 2
  | _ => 0

abbrev bufTy : (tb : Table) → Fin (nBuf tb) → BufTy
  | .hbm, ⟨0, _⟩ => ⟨S8x256x32x32, .f32⟩
  | .hbm, ⟨1, _⟩ => ⟨S8192x256, .f32⟩
  | .hbm, ⟨2, _⟩ => ⟨S8192x1, .i32⟩
  | .hbm, ⟨3, _⟩ => ⟨S8x32x32x256, .f32⟩
  | .hbm, ⟨4, _⟩ => ⟨S8192x256, .f32⟩
  | .hbm, ⟨5, _⟩ => ⟨S8192x8192, .f32⟩
  | .hbm, ⟨6, _⟩ => ⟨S1x8192, .f32⟩
  | .hbm, ⟨7, _⟩ => ⟨S8192x2x128, .f32⟩
  | .hbm, ⟨8, _⟩ => ⟨S8192, .i32⟩
  | .hbm, ⟨9, _⟩ => ⟨S8192x2x128, .f32⟩
  | .hbm, ⟨10, _⟩ => ⟨S8192x256, .f32⟩
  | .hbm, ⟨11, _⟩ => ⟨S1x1, .f32⟩
  | .hbm, ⟨12, _⟩ => ⟨S1x1, .f32⟩
  | .hbm, ⟨13, _⟩ => ⟨S8192x256, .f32⟩
  | .hbm, ⟨14, _⟩ => ⟨S8x32x32x256, .f32⟩
  | .hbm, ⟨15, _⟩ => ⟨S8x256x32x32, .f32⟩
  | .hbm, ⟨16, _⟩ => ⟨S_, .f32⟩
  | .hbm, ⟨17, _⟩ => ⟨S_, .f32⟩
  | .local .tc .vmem, ⟨0, _⟩ => ⟨S256x1, .i32⟩
  | .local .tc .vmem, ⟨1, _⟩ => ⟨S256x1, .i32⟩
  | .local .tc .vmem, ⟨2, _⟩ => ⟨S256x8192, .f32⟩
  | .local .tc .vmem, ⟨3, _⟩ => ⟨S256x8192, .f32⟩
  | .local .tc .vmem, ⟨4, _⟩ => ⟨S1x8192, .f32⟩
  | .local .tc .vmem, ⟨5, _⟩ => ⟨S1x8192, .f32⟩
  | .local .tc .vmem, ⟨6, _⟩ => ⟨S1x8192, .i32⟩
  | .local .tc .vmem, ⟨7, _⟩ => ⟨S8192x256, .f32⟩
  | .local .tc .vmem, ⟨8, _⟩ => ⟨S8192x256, .f32⟩
  | .local .tc .vmem, ⟨9, _⟩ => ⟨S1x8192, .f32⟩
  | .local .tc .vmem, ⟨10, _⟩ => ⟨S1x1, .f32⟩
  | .local .tc .vmem, ⟨11, _⟩ => ⟨S1x1, .f32⟩
  | .local .tc .vmem, ⟨12, _⟩ => ⟨S8192x256, .f32⟩
  | .local .scVector .vmem, ⟨0, _⟩ => ⟨S64, .i32⟩
  | .local .scVector .vmem, ⟨1, _⟩ => ⟨S64x2x128, .f32⟩
  | _, _ => ⟨S8x256x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v21 : BitVec 1 := Scalar.cmpi .eq arg0 c31_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  ![v3.toNat]
def k1_off2 (i : grid1.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_24_r1 : BitVec 32 := 0#32
  let c0_i32_25_r1 : BitVec 32 := 0#32
  ![v3.toNat, 0, 0]
abbrev grid2 : Pipeline.Grid := .none

abbrev stage2_0 : Fin 1 → Memref sig .tc .vmem S8192x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S8192x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x256x32x32 : Shape := ⟨4, ![8, 256, 32, 32]⟩
abbrev S8192x256 : Shape := ⟨2, ![8192, 256]⟩
abbrev S8192x1 : Shape := ⟨2, ![8192, 1]⟩
abbrev S8x32x32x256 : Shape := ⟨4, ![8, 32, 32, 256]⟩
abbrev S_ : Shape := ⟨0, ![]⟩
abbrev S8192x8192 : Shape := ⟨2, ![8192, 8192]⟩
abbrev S8192 : Shape := ⟨1, ![8192]⟩
abbrev S8192x2 : Shape := ⟨2, ![8192, 2]⟩

abbrev nBuf : Space → Nat
  | .hbm => 63
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8192x1, .i32⟩
  | .hbm, ⟨3, _⟩ => ⟨S8x32x32x256, .f32⟩
  | .hbm, ⟨4, _⟩ => ⟨S8192x256, .f32⟩
  | .hbm, ⟨5, _⟩ => ⟨S_, .f32⟩
  | .hbm, ⟨6, _⟩ => ⟨S8192x8192, .f32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x1, .i32⟩
  | .hbm, ⟨25, _⟩ => ⟨S8192x2, .i32⟩
  | .hbm, ⟨26, _⟩ => ⟨S_, .f32⟩
  | .hbm, ⟨27, _⟩ => ⟨S8192, .f32⟩
  | .hbm, ⟨28, _⟩ => ⟨S8192x8192, .f32⟩
  | .hbm, ⟨29, _⟩ => ⟨S8192x256, .f32⟩
  | .hbm, ⟨30, _⟩ => ⟨S8x32x32x256, .f32⟩
  | .hbm, ⟨31, _⟩ => ⟨S8x32x32x256, .f32⟩
  | .hbm, ⟨32, _⟩ => ⟨S8x32x32x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x32x32x256, .f32⟩
  | .hbm, ⟨38, _⟩ => ⟨S8x32x32x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x32x32x256, .f32⟩
  | .hbm, ⟨47, _⟩ => ⟨S8x32x32x256, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Nearest.lean ====
abbrev S8x256x32x32 : Shape := ⟨4, ![8, 256, 32, 32]⟩
abbrev S8192x256 : Shape := ⟨2, ![8192, 256]⟩
abbrev S8x32x32x256 : Shape := ⟨4, ![8, 32, 32, 256]⟩
abbrev S8192x17 : Shape := ⟨2, ![8192, 17]⟩
abbrev S1024x256 : Shape := ⟨2, ![1024, 256]⟩
abbrev S1x1024 : Shape := ⟨2, ![1, 1024]⟩
abbrev S8192 : Shape := ⟨1, ![8192]⟩
abbrev S8192x1 : Shape := ⟨2, ![8192, 1]⟩
abbrev S8192x1024 : Shape := ⟨2, ![8192, 1024]⟩
abbrev S1024 : Shape := ⟨1, ![1024]⟩
abbrev S8192x4 : Shape := ⟨2, ![8192, 4]⟩

abbrev nBuf : Space → Nat
  | .hbm => 6
  | .vmem => 7
  | .smem => 0
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8x32x32x256, .f32⟩
  | .hbm, ⟨3, _⟩ => ⟨S8192x256, .f32⟩
  | .hbm, ⟨4, _⟩ => ⟨S8192x17, .f32⟩
  | .hbm, ⟨5, _⟩ => ⟨S8192x1, .i32⟩
  | .local _ .vmem, ⟨0, _⟩ => ⟨S8192x256, .f32⟩
  | .local _ .vmem, ⟨1, _⟩ => ⟨S1024x256, .f32⟩
  | .local _ .vmem, ⟨2, _⟩ => ⟨S1024x256, .f32⟩
  | .local _ .vmem, ⟨3, _⟩ => ⟨S8192x17, .f32⟩
  | .local _ .vmem, ⟨4, _⟩ => ⟨S1x1024, .f32⟩
  | .local _ .vmem, ⟨5, _⟩ => ⟨S8192x17, .f32⟩
  | .local _ .vmem, ⟨6, _⟩ => ⟨S8192x1, .i32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_12 : BitVec 32 := 0#32
  let v35 : BitVec 1 := Scalar.cmpi .eq arg0 c0_i32_12
  let v36 : BitVec 32 := Scalar.extui v35
  let c0_i32_13 : BitVec 32 := 0#32
  let v37 : BitVec 1 := Scalar.cmpi .ne v36 c0_i32_13
  v37

def k0_cond3 (i : grid0.Coords) : BitVec 1 :=
  let arg0 : BitVec 32 := BitVec.ofNat 32 (i 0).val
  let c1_i32 : BitVec 32 := 1#32
  let v38 : BitVec 1 := Scalar.cmpi .eq arg0 c1_i32
  let v39 : BitVec 32 := Scalar.extui v38
  let c0_i32_14 : BitVec 32 := 0#32
  let v40 : BitVec 1 := Scalar.cmpi .ne v39 c0_i32_14
  v40

def k0_cond4 (i : grid0.Coords) : BitVec 1 :=
  let arg0 : BitVec 32 := BitVec.ofNat 32 (i 0).val
  let c2_i32 : BitVec 32 := 2#32
  let v41 : BitVec 1 := Scalar.cmpi .eq arg0 c2_i32
  let v42 : BitVec 32 := Scalar.extui v41
  let c0_i32_15 : BitVec 32 := 0#32
  let v43 : BitVec 1 := Scalar.cmpi .ne v42 c0_i32_15
  v43

def k0_cond5 (i : grid0.Coords) : BitVec 1 :=
  let arg0 : BitVec 32 := BitVec.ofNat 32 (i 0).val
  let c3_i32 : BitVec 32 := 3#32
  let v44 : BitVec 1 := Scalar.cmpi .eq arg0 c3_i32
  let v45 : BitVec 32 := Scalar.extui v44
  let c0_i32_16 : BitVec 32 := 0#32
  let v46 : BitVec 1 := Scalar.cmpi .ne v45 c0_i32_16
  v46

def k0_cond6 (i : grid0.Coords) : BitVec 1 :=
  let arg0 : BitVec 32 := BitVec.ofNat 32 (i 0).val
  let c4_i32 : BitVec 32 := 4#32
  let v47 : BitVec 1 := Scalar.cmpi .eq arg0 c4_i32
  let v48 : BitVec 32 := Scalar.extui v47
  let c0_i32_17 : BitVec 32 := 0#32
  let v49 : BitVec 1 := Scalar.cmpi .ne v48 c0_i32_17
  v49

def k0_cond7 (i : grid0.Coords) : BitVec 1 :=
  let arg0 : BitVec 32 := BitVec.ofNat 32 (i 0).val
  let c5_i32 : BitVec 32 := 5#32
  let v50 : BitVec 1 := Scalar.cmpi .eq arg0 c5_i32
  let v51 : BitVec 32 := Scalar.extui v50
  let c0_i32_18 : BitVec 32 := 0#32
  let v52 : BitVec 1 := Scalar.cmpi .ne v51 c0_i32_18
  v52

def k0_cond8 (i : grid0.Coords) : BitVec 1 :=
  let arg0 : BitVec 32 := BitVec.ofNat 32 (i 0).val
  let c6_i32 : BitVec 32 := 6#32
  let v53 : BitVec 1 := Scalar.cmpi .eq arg0 c6_i32
  let v54 : BitVec 32 := Scalar.extui v53
  let c0_i32_19 : BitVec 32 := 0#32
  let v55 : BitVec 1 := Scalar.cmpi .ne v54 c0_i32_19
  v55

def k0_cond9 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_20 : BitVec 32 := 0#32
  let v58 : BitVec 1 := Scalar.cmpi .ne v57 c0_i32_20
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S8192x17 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8192x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== NearestReferenceIdeal.lean ====
abbrev S8x256x32x32 : Shape := ⟨4, ![8, 256, 32, 32]⟩
abbrev S8192x256 : Shape := ⟨2, ![8192, 256]⟩
abbrev S8x32x32x256 : Shape := ⟨4, ![8, 32, 32, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S256x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Setup.lean ====
/-
  The program `kernel` as the SparseCore launch theorem sees it: its three device calls, the ghost state of
  the launch (the handshakes of the SparseCore call, the rounds of the two pipelined TensorCore calls, the
  counters of local copies), and the names of its buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels the SparseCore call wraps: the kernels' and the two pipelines'. -/
abbrev ΛP : Labels := Pipeline.Sig Λ₀ (Fin 2) fun p => (pcfgs (F := F) p).Adm
/-- The SparseCore call. -/
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

/-- The rounds of the SparseCore call's handshakes, -/
abbrev UH : Type := URounds (GSem nD τ sig) ℕ
/-- of the pipelines' staging buffers, -/
abbrev UP : Type := URounds (GSem nD τ sig) Unit
/-- and both beside the counters of the local copies. -/
abbrev UU : Type := UH × (UP × Counters)

/-- The machine's algebra. -/
abbrev MM (F : FTy → Type) : Type := MT nD τ sig (HIx 1) (Elt F) ℕ UU ℕ

abbrev EH : Emb UH (MM F) := embL
abbrev EP : Emb UP (MM F) := (Emb.inl : Emb UP (UP × Counters)).trans embR

/-! ## The buffers -/

abbrev tabLoc (d : Dev nD) : Loc nD τ sig := (SparseCore.T d).loc main_v3
abbrev idxLoc (d : Dev nD) : Loc nD τ sig := (SparseCore.T d).loc main_v4
abbrev outLoc (d : Dev nD) : Loc nD τ sig := (SparseCore.T d).loc main_v5

instance : (EP (F := F)).LandsIn (upEmb : UEmb _ (MM F)) := by unfold EP; infer_instance

end Cert.Proof.Setup

end
-- ==== Proof.Step.lean ====
/-
  One pipelined TensorCore call of `kernel`, run from all the buffers of the TensorCore held at known contents:
  it leaves the call's arrays at their final contents and every other buffer as it was, and it gives the
  bookkeeping of the SparseCore call back unchanged.
-/
module

public import proofs.«01_k».proof.Proof.Setup
public import Idealize.ShloMosaic.Lib.Pipeline.RegionsLoop

@[expose] public section

noncomputable section

namespace Cert.Proof.Step

open Cert.KernelIdeal Cert.KernelIdeal.Gen Cert.Proof.Setup

open Idealize.ShloMosaic
open Idealize.ShloMosaic.SparseCore.Cfg (HIx Pay)
open Idealize.ShloMosaic.Pipeline (Dat RegionSeg BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- No call prefetches a table. -/
abbrev adm : (p : Fin 2) → (pcfgs (F := F) p).Adm := fun p => (cfgs p).toPCfg_adm

/-- Proof data of the two pipelined calls. -/
abbrev Dats (F : FTy → Type) : Type :=
  (p : Fin 2) → (c : Dev nD) → Dat τ (Elt F) (HIx 1) ℕ UU ℕ (cfgs p) c

/-- The waits that the TensorCore may have recorded before SparseCore call `n`. -/
def below (d : Dev nD) (n : ℕ) : Set (SemLoc sig × HIx 1) :=
  {p | (K (F := F)).lev (SparseCore.T d, p.1) p.2 ≤ 8 * n}

/-- What the TensorCore owes is taken out of its state, and put back. -/
theorem tcSt_open (d : Dev nD) (n : ℕ) :
    ((K (F := F)).tcSt EH d n : sProp 𝕄)
      ⊢ iprop(Pipeline.owesWithin d ((K (F := F)).Otc d n) (below (F := F) d n)
          ∗ (Pipeline.owesWithin d ((K (F := F)).Otc d n) (below (F := F) d n) -∗ (K (F := F)).tcSt EH d n)) := by
  unfold SparseCore.Cfg.tcSt Pipeline.owesWithin
  iintro ⟨⟨%W, %hW, HO⟩, HR⟩
  isplitl [HO]
  · iexists W; isplitr
    · ipureintro; exact fun p hp => hW p hp
    iexact HO
  iintro ⟨%W', %hW', HO⟩
  isplitl [HO]
  · iexists W'; isplitr
    · ipureintro; exact fun p hp => hW' hp
    iexact HO
  iexact HR

variable (pdats : Dats F)

/-- What a call's proof data must satisfy: it owes what the TensorCore owes before SparseCore call `n`, and its
    invariant starts from, and ends at, the scoped buffers that the call does not stage. -/
structure Fits (p : Fin 2) (n : ℕ) : Prop where
  body : ∀ c, BodyObligationLoose (pdats p c) (defs₀ (F := F)) 𝒱₀ none Set.univ
  owed : ∀ c t, (pdats p c).owed t = (K (F := F)).Otc c n
  recorded : ∀ c t, (pdats p c).recorded t = below (F := F) c n
  share : ∀ c w, (pdats p c).share w = fullShare
  enter : ∀ c, (Pipeline.scopedRest (cfgs p).spec c : sProp 𝕄) ⊢ (pdats p c).Φ 0
  leave : ∀ c, (pdats p c).Φ (Fin.last (cfgs p).N) ⊢ (Pipeline.scopedRest (cfgs p).spec c : sProp 𝕄)

variable {pdats} {p : Fin 2} {n : ℕ}

theorem bound_eq (h : Fits pdats p n) (c : Dev nD) (t) : (pdats p c).bound none t = below (F := F) c n := by
  unfold Dat.bound
  rw [h.recorded]
  refine Set.union_eq_self_of_subset_right ?_
  rintro _ ⟨w, s, rfl⟩
  exact Nat.zero_le _

/-- The call as a region of the program. -/
def seg (h : Fits pdats p n) (kit : Pipeline.LaunchFacts (nD := nD) (τ := τ) cfgs p) :
    RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := h.body
  hwaits c := Pipeline.cellsWaits_of_cut (Pipeline.pin pcfgs adm) pdats none p c 0 ((K (F := F)).Otc c n) (h.owed c)
    (fun _ _ => Finset.mem_univ _)
    (fun _ _ => le_of_eq rfl)
    (fun g i hg => ⟨Finset.mem_univ _, by
      have := SparseCore.Cfg.lev_of_Otc_pos (K := K (F := F)) hg
      omega⟩)
  pre c := iprop((pdats p c).arrays ((pdats p c).arrAt · 0) ∗ Pipeline.owesWithin c ((K (F := F)).Otc c n) (below (F := F) c n))
  post c := iprop((pdats p c).arrays ((pdats p c).arrAt · (cfgs p).N) ∗ Pipeline.owesWithin c ((K (F := F)).Otc c n) (below (F := F) c n))
  X _ := BI.emp
  Y _ := BI.emp
  Z _ := BI.emp
  hentry c := by
    rw [Pipeline.ownSems0_none, Pipeline.prefHeld_of_none _ rfl]
    unfold Dat.owesAt
    rw [h.owed, bound_eq h]
    iintro ⟨⟨Ha, HO⟩, -, -⟩
    imodintro
    isplitl [Ha]; · iexact Ha
    isplitr; · iempintro
    isplitl [HO]; · iexact HO
    isplitr <;> iempintro
  hin c := (show _ ⊢ (Pipeline.scopedRest (cfgs p).spec c : sProp 𝕄) from by
    iintro ⟨-, -, Hr⟩; iexact Hr).trans (h.enter c)
  hout c := (h.leave c).trans (by
    rw [Pipeline.ownSems0_none]
    iintro Hr
    isplitr; · iempintro
    isplitr; · iempintro
    iexact Hr)
  hexit c := by
    unfold Dat.owesAt
    rw [h.owed, bound_eq h]
    iintro ⟨Ha, HO, -, -⟩
    imodintro
    isplitl [Ha]; · iexact Ha
    iexact HO

set_option maxHeartbeats 400000 in
/-- The call's step, over all the buffers of the TensorCore. -/
theorem region [∀ e, Nonempty (Elt F e)] (h : Fits pdats p n) (kit : Pipeline.LaunchFacts (nD := nD) (τ := τ) cfgs p) (c : Dev nD)
    (V V' : Valuation τ sig (Elt F))
    (hA : ∀ w, (pdats p c).A w = V (Proc.devRef .tc (Pipeline.arrRef (cfgs p).spec w)))
    (hF : ∀ w, (pdats p c).arrAt w (cfgs p).N = V' (Proc.devRef .tc (Pipeline.arrRef (cfgs p).spec w)))
    (hrest : ∀ b : Ref sig .tc, b ∉ Finset.univ.image (Pipeline.arrRef (cfgs p).spec) → V' (Proc.devRef .tc b) = V (Proc.devRef .tc b))
    (Q : PUnit → sProp 𝕄) :
    iprop(levAts (K (F := F)).L (K (F := F)).lev ∗ boundary (c.tc : Thread nD τ) ∗ (K (F := F)).tcSt EH c n
        ∗ StableHlo.held (c.tc : Thread nD τ) (Pipeline.ucRefs τ sig) V
        ∗ (Pipeline.cellsGhost (Pipeline.pin (pcfgs (F := F)) adm) EP p c ∗ Pipeline.toksInit (Pipeline.pin (pcfgs (F := F)) adm) EP p c)
        ∗ (boundary (c.tc : Thread nD τ) ∗ (K (F := F)).tcSt EH c n ∗ StableHlo.held (c.tc : Thread nD τ) (Pipeline.ucRefs τ sig) V' -∗ Q ⟨⟩))
      ⊢ wp frame (wpE ((K (F := F)).defs (D (F := F))) 𝒱 (SparseCore.T c) none) Set.univ
          (Prog.lift (.customCall (SparseCore.inner (Pipeline.entry p)) ())) Q := by
  have hstep := RegionSeg.wp (pcfgs (F := F)) adm pdats none cellOf_inj EP defs₀ 𝒱₀ (K (F := F)).L (K (F := F)).lev (seg h kit) c none
    (fun u hu => nomatch hu) (fun _ => .ret ⟨⟩) Q
  have hlift := (K (F := F)).wp_liftProg (D (F := F)) 𝒱 (SparseCore.T c) Set.univ none
    (Prog.op (.customCall (Pipeline.entry p) ()) fun _ => .ret ⟨⟩) Q
  rw [show (seg h kit).pre c = iprop((pdats p c).arrays ((pdats p c).arrAt · 0) ∗ Pipeline.owesWithin c ((K (F := F)).Otc c n) (below (F := F) c n)) from rfl,
    show (seg h kit).post c = iprop((pdats p c).arrays ((pdats p c).arrAt · (cfgs p).N) ∗ Pipeline.owesWithin c ((K (F := F)).Otc c n) (below (F := F) c n)) from rfl] at hstep
  rw [SparseCore.liftProg_op] at hlift
  simp only [SparseCore.liftProg_ret] at hlift
  refine BIBase.Entails.trans ?_ hlift
  refine BIBase.Entails.trans ?_ hstep
  rw [← Pipeline.unscopedBufs_held c V, ← Pipeline.unscopedBufs_held c V']
  have hsplit := Pipeline.arrays_of_unscopedBufs (p := p) (pcfgs (F := F)) adm pdats kit.win kit.arr_whole c (h.share c)
    (fun b => V (Proc.devRef .tc b)) hA
  have hjoin := Pipeline.unscopedBufs_of_arrays (p := p) (pcfgs (F := F)) adm kit.win kit.arr_whole c pdats (h.share c)
    (fun b => V (Proc.devRef .tc b)) (fun b => V' (Proc.devRef .tc b)) ((pdats p c).arrAt · (cfgs p).N) hF hrest
  iintro ⟨HL, Hb, Hst, Hu, ⟨Hg, Ht⟩, Hk⟩
  ihave Hsp := hsplit $$ Hu
  icases Hsp with ⟨Ha, Hr⟩
  ihave Hop := (tcSt_open c n) $$ Hst
  icases Hop with ⟨HO, Hback⟩
  isplitl [Hk Hr Hback]
  · iintro ⟨Hb, Ha, HO⟩
    rw [Sem.wp_ret]
    imodintro
    iapply Hk
    isplitl [Hb]; · iexact Hb
    isplitl [Hback HO]
    · iapply Hback; iexact HO
    iapply hjoin
    isplitl [Ha]; · iexact Ha
    iexact Hr
  isplitl [Hb]; · iexact Hb
  isplitl [Ha HO]
  · isplitl [Ha]; · iexact Ha
    iexact HO
  isplitl [HL]; · iexact HL
  isplitl [Hg]; · iexact Hg
  iexact Ht

end Cert.Proof.Step

end
-- ==== Proof.Onehot.lean ====
/-
  The first pipelined call of `kernel`: over 32 grid points it writes, 256 rows at a time, the matrix whose entry
  at (row, code) compares the code's number with the row's index, and it carries in a scratch buffer the sum of the
  rows written so far, which the last point copies out.
-/
module

public import proofs.«01_k».proof.Proof.Step
public import Idealize.ShloMosaic.Lib.Pipeline.FrameBody
public import Idealize.ShloMosaic.Lib.VecWindow
public import Idealize.ShloMosaic.Lib.Ring
public import Idealize.ShloMosaic.Lib.WordCmp
public import Idealize.ShloMosaic.Lib.Pipeline.Value
public import Idealize.ShloMosaic.Lib.ValueIdx

@[expose] public section

set_option maxRecDepth 16384

noncomputable section

namespace Cert.Proof.Onehot

open Cert.KernelIdeal Cert.KernelIdeal.Gen Cert.Proof.Setup

open Idealize.ShloMosaic Idealize.ShloMosaic.TcCoe Idealize.ShloMosaic.Tactic
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The body -/

/-- The body's two conditions, over the grid point's coordinates. -/
abbrev isFirst (i : grid0.Coords) : Prop := (Scalar.cmpi .ne (Scalar.extui (Scalar.cmpi .eq (BitVec.ofNat 32 (i 0).val) 0#32)) 0#32) = 1#1
abbrev isLast (i : grid0.Coords) : Prop := k0_cond3 i = 1#1

theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val = 0)

theorem isLast_iff : ∀ t : Fin cfg0.N, isLast (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    simp only [isLast, k0_cond3, e0]
    word_cmp
   : ∀ t : Fin grid0.N, isLast (grid0.coords t) ↔ t.val = 31)

/-- The codes' numbers along a row. -/
def iotaRow : Vec F S1x8192 .i32 := k0_pay1

section Body

variable (c : Dev nD) (E : Set ℕ) (i : grid0.Coords) (arg1 : Memref sig .tc .vmem S256x1 .i32) (harg1 : arg1.IsWhole)
  (arg2 : Memref sig .tc .vmem S256x8192 .f32) (harg2 : arg2.IsWhole) (arg3 : Memref sig .tc .vmem S1x8192 .f32) (harg3 : arg3.IsWhole)
  (arg4 : Memref sig .tc .vmem S1x8192 .f32) (harg4 : arg4.IsWhole) (arg5 : Memref sig .tc .vmem S1x8192 .i32) (harg5 : arg5.IsWhole)
  (x : Vec F S256x1 .i32) (s : Vec F S1x8192 .f32) (u : Vec F S1x8192 .i32) (z : Vec F S1x8192 .f32)

set_option maxHeartbeats 1000000 in
/-- At the first point the scratch buffers are set up, and the column of zeros is the sum before it. -/
theorem run_first (h1 : isFirst i) (h2 : ¬isLast i) (Q : PUnit → sProp 𝕄) :
    iprop(owns (c : Thread nD τ) arg1 fullShare x ∗ (∃ d, owns (c : Thread nD τ) arg2 fullShare d) ∗ owns (c : Thread nD τ) arg3 fullShare z
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare (k0_pay2 (iotaRow (F := F)) x) ∗ owns (c : Thread nD τ) arg3 fullShare z
            ∗ owns (c : Thread nD τ) arg4 fullShare (k0_pay4 (iotaRow (F := F)) x (k0_pay3 (F := F))) ∗ owns (c : Thread nD τ) arg5 fullShare (iotaRow (F := F))) -∗ Q ⟨⟩))
      ⊢ wp frame (wpE (defs₀ (F := F)) Variants.none c none) E (cc0__onehot_kernel i arg1 harg1 arg2 harg2 arg3 harg3 arg4 harg4 arg5 harg5) Q := by
  simp only [cc0__onehot_kernel_eq_skeleton]; unfold cc0__onehot_kernel_skel
  unfold owns
  iintro ⟨⟨%f1, %hf1, H1⟩, ⟨%d2, %f2, -, H2⟩, ⟨%f3, %hf3, H3⟩, ⟨%d4, %f4, -, H4⟩, ⟨%d5, %f5, -, H5⟩, Hk⟩
  subst hf1 hf3
  sl_exec (disch := first | sl_exact h1 | sl_exact h2)
  sl_step
  iapply Hk
  isplitl [H1]
  · iexists _; isplitr; · ipureintro; rfl
    iexact H1
  isplitl [H2]
  · iexists _; isplitr
    swap; · iexact H2
    ipureintro
    refine (View.read_writes_full _ _ _ _ _).trans ?_
    refine congrArg₂ k0_pay2 (View.readCov_full _ _ _ _ _) (View.readAt_full _ _ _)
  isplitl [H3]
  · iexists _; isplitr; · ipureintro; rfl
    iexact H3
  isplitl [H4]
  · iexists _; isplitr
    swap; · iexact H4
    ipureintro
    refine (View.read_writes_full _ _ _ _ _).trans ?_
    rw [show run_first.sl.v3 c arg5 = iotaRow (F := F) from View.readCov_full _ _ _ _ _,
      show run_first.sl.v14 c arg4 = k0_pay3 (F := F) from View.readCov_full _ _ _ _ _, View.readAt_full]
  iexists _; isplitr
  swap; · iexact H5
  ipureintro
  exact View.read_writes_full _ _ _ _ _

set_option maxHeartbeats 1000000 in
/-- At a point between, the sum grows by the rows written. -/
theorem run_mid (h1 : ¬isFirst i) (h2 : ¬isLast i) (Q : PUnit → sProp 𝕄) :
    iprop(owns (c : Thread nD τ) arg1 fullShare x ∗ (∃ d, owns (c : Thread nD τ) arg2 fullShare d) ∗ owns (c : Thread nD τ) arg3 fullShare z
        ∗ owns (c : Thread nD τ) arg4 fullShare s ∗ owns (c : Thread nD τ) arg5 fullShare u
        ∗ (iprop(owns (c : Thread nD τ) arg1 fullShare x ∗ owns (c : Thread nD τ) arg2 fullShare (k0_pay2 u x) ∗ owns (c : Thread nD τ) arg3 fullShare z
            ∗ owns (c : Thread nD τ) arg4 fullShare (k0_pay4 u x s) ∗ owns (c : Thread nD τ) arg5 fullShare u) -∗ Q ⟨⟩))
      ⊢ wp frame (wpE (defs₀ (F := F)) Variants.none c none) E (cc0__onehot_kernel i arg1 harg1 arg2 harg2 arg3 harg3 arg4 harg4 arg5 harg5) Q := by
  simp only [cc0__onehot_kernel_eq_skeleton]; unfold cc0__onehot_kernel_skel
  unfold owns
  iintro ⟨⟨%f1, %hf1, H1⟩, ⟨%d2, %f2, -, H2⟩, ⟨%f3, %hf3, H3⟩, ⟨%f4, %hf4, H4⟩, ⟨%f5, %hf5, H5⟩, Hk⟩
  subst hf1 hf3 hf4 hf5
  sl_exec (disch := first | sl_exact h1 | sl_exact h2)
  sl_step
  iapply Hk
  isplitl [H1]
  · iexists _; isplitr; · ipureintro; rfl
    iexact H1
  isplitl [H2]
  · iexists _; isplitr
    swap; · iexact H2
    ipureintro
    refine (View.read_writes_full _ _ _ _ _).trans ?_
    exact congrArg₂ k0_pay2 (View.readAt_full _ _ _) (View.readAt_full _ _ _)
  isplitl [H3]
  · iexists _; isplitr; · ipureintro; rfl
    iexact H3
  isplitl [H4]
  · iexists _; isplitr
    swap; · iexact H4
    ipureintro
    refine (View.read_writes_full _ _ _ _ _).trans ?_
    rw [View.readAt_full, View.readAt_full, View.readAt_full]
  iexists _; isplitr; · ipureintro; rfl
  iexact H5

set_option maxHeartbeats 1000000 in
/-- At the last point the sum is also copied out. -/
theorem run_last (h1 : ¬isFirst i) (h2 : isLast i) (Q : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s ∗ owns (c : Thread nD τ) arg5 fullShare u
        ∗ (iprop(owns (c : Thread nD τ) arg1 fullShare x ∗ owns (c : Thread nD τ) arg2 fullShare (k0_pay2 u x) ∗ owns (c : Thread nD τ) arg3 fullShare (k0_pay4 u x s)
            ∗ owns (c : Thread nD τ) arg4 fullShare (k0_pay4 u x s) ∗ owns (c : Thread nD τ) arg5 fullShare u) -∗ Q ⟨⟩))
      ⊢ wp frame (wpE (defs₀ (F := F)) Variants.none c none) E (cc0__onehot_kernel i arg1 harg1 arg2 harg2 arg3 harg3 arg4 harg4 arg5 harg5) Q := by
  simp only [cc0__onehot_kernel_eq_skeleton]; unfold cc0__onehot_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1 hf4 hf5
  sl_exec (disch := first | sl_exact h1 | sl_exact h2)
  sl_step
  iapply Hk
  isplitl [H1]
  · iexists _; isplitr; · ipureintro; rfl
    iexact H1
  isplitl [H2]
  · iexists _; isplitr
    swap; · iexact H2
    ipureintro
    refine (View.read_writes_full _ _ _ _ _).trans ?_
    exact congrArg₂ k0_pay2 (View.readAt_full _ _ _) (View.readAt_full _ _ _)
  isplitl [H3]
  · iexists _; isplitr
    swap; · iexact H3
    ipureintro
    refine (View.read_writes_full _ _ _ _ _).trans ?_
    refine (View.readCov_full _ _ _ _ _).trans ?_
    rw [View.readAt_full, View.readAt_full, View.readAt_full]
  isplitl [H4]
  · iexists _; isplitr
    swap; · iexact H4
    ipureintro
    refine (View.read_writes_full _ _ _ _ _).trans ?_
    rw [View.readAt_full, View.readAt_full, View.readAt_full]
  iexists _; isplitr; · ipureintro; rfl
  iexact H5

end Body

/-! ## The proof data -/

/-- The 256 indices of the rows that point `n` writes. -/
def rows (X : Vec F S8192x1 .i32) (n : ℕ) : Vec F S256x1 .i32 :=
  fun y => X fun | 0 => (⟨(n * 256 + (y 0).val) % 8192, Nat.mod_lt _ (by decide)⟩ : Fin 8192) | 1 => y 1

/-- The sum carried before point `n`. -/
def csum (X : Vec F S8192x1 .i32) : ℕ → Vec F S1x8192 .f32
  | 0 => k0_pay3
  | n + 1 => k0_pay4 (iotaRow (F := F)) (rows X n) (csum X n)

/-- The matrix: at (row, code) whether the code's number is the row's index. -/
def hot (X : Vec F S8192x1 .i32) : Vec F S8192x8192 .f32 :=
  fun y => FloatOps.sitofp .f32 (((IntOp.cmpi .eq (BitVec.ofNat 32 (y 1).val) (X fun | 0 => y 0 | 1 => (0 : Fin 1))).setWidth 32 : BitVec 32))

variable (V : Valuation τ sig (Elt F))

/-- The indices, as the call finds them. -/
abbrev xIdx : Vec F S8192x1 .i32 := V (Proc.devRef .tc (main_arg2 : Ref sig .tc))

/-- The buffers that the call neither stages nor uses. -/
def others (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f))

/-- Before point `n` the scratch buffers hold the sum so far and the codes' numbers; before the first, anything. -/
def inv (c : Dev nD) (n : ℕ) : sProp 𝕄 :=
  iprop((∃ d, ⌜n ≠ 0 → d = csum (xIdx V) n⌝ ∗ owns (c : Thread nD τ) (Memref.whole cc0_scratch0) fullShare d)
    ∗ (∃ d, ⌜n ≠ 0 → d = iotaRow (F := F)⌝ ∗ owns (c : Thread nD τ) (Memref.whole cc0_scratch1) fullShare d)
    ∗ others c)

/-- The call's proof data. -/
def dat (c : Dev nD) : Dat τ (Elt F) (HIx 1) ℕ UU ℕ cfg0 c where
  A w := V (Proc.devRef .tc (Pipeline.arrRef spec0 w))
  after w t := match w with
    | ⟨0, _⟩ => rows (xIdx V) t.val
    | ⟨1, _⟩ => k0_pay2 (iotaRow (F := F)) (rows (xIdx V) t.val)
    | ⟨2, _⟩ => csum (xIdx V) (t.val + 1)
  Φ n := inv V c n.val
  q _ := fullShare
  owed _ := (K (F := F)).Otc c 0
  recorded _ := Step.below (F := F) c 0

theorem A_eq (c : Dev nD) (w : Fin cfg0.W) : (dat V c).A w = V (Proc.devRef .tc (Pipeline.arrRef spec0 w)) := by dsimp only [dat]
theorem after_0 (c : Dev nD) (t : Fin cfg0.N) : (dat V c).after 0 t = rows (xIdx V) t.val := by dsimp only [dat]
theorem after_1 (c : Dev nD) (t : Fin cfg0.N) : (dat V c).after 1 t = k0_pay2 (iotaRow (F := F)) (rows (xIdx V) t.val) := by dsimp only [dat]
theorem after_2 (c : Dev nD) (t : Fin cfg0.N) : (dat V c).after 2 t = csum (xIdx V) (t.val + 1) := by dsimp only [dat]

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)

theorem emb0 (t : Fin cfg0.N) (j : S256x1.Idx) :
    ((cfg0.win 0).blk t).view.emb j = (fun | 0 => (⟨(t.val * 256 + (j 0).val) % 8192, Nat.mod_lt _ (by decide)⟩ : Fin 8192) | 1 => j 1 : S8192x1.Idx) := by
  obtain ⟨e0, e1⟩ := idx0 t
  have ht : t.val < 32 := Nat.lt_of_lt_of_eq t.isLt N_0
  have hj : (j 0).val < 256 := (j 0).isLt
  funext a; apply Fin.ext
  match a with
  | ⟨0, _⟩ => show win0_0.index t (0 : Fin 2) * 256 + 1 * (j 0).val = (t.val * 256 + (j 0).val) % 8192; rw [e0]; omega
  | ⟨1, _⟩ => show win0_0.index t (1 : Fin 2) * 1 + 1 * (j 1).val = (j 1).val; omega
theorem emb1 (t : Fin cfg0.N) (j : S256x8192.Idx) :
    ((cfg0.win 1).blk t).view.emb j = (fun | 0 => (⟨(t.val * 256 + (j 0).val) % 8192, Nat.mod_lt _ (by decide)⟩ : Fin 8192) | 1 => j 1 : S8192x8192.Idx) := by
  obtain ⟨e0, e1⟩ := idx1 t
  have ht : t.val < 32 := Nat.lt_of_lt_of_eq t.isLt N_0
  have hj : (j 0).val < 256 := (j 0).isLt
  funext a; apply Fin.ext
  match a with
  | ⟨0, _⟩ => show win0_1.index t (0 : Fin 2) * 256 + 1 * (j 0).val = (t.val * 256 + (j 0).val) % 8192; rw [e0]; omega
  | ⟨1, _⟩ => show win0_1.index t (1 : Fin 2) * 8192 + 1 * (j 1).val = (j 1).val; omega
theorem emb2 (t : Fin cfg0.N) (j : S1x8192.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 8192 + 1 * (j 1).val = (j 1).val; omega

theorem read0 (t : Fin cfg0.N) (X : Vec F S8192x1 .i32) : ((cfg0.win 0).blk t).view.read (Elt F) X = rows X t.val := by
  funext j; show X (((cfg0.win 0).blk t).view.emb j) = _; rw [emb0]; rfl
theorem read2 (t : Fin cfg0.N) (f : Vec F S1x8192 .f32) : ((cfg0.win 2).blk t).view.read (Elt F) f = f := by
  funext j; show f (((cfg0.win 2).blk t).view.emb j) = f j; rw [emb2]

/-- The rows that a point writes are those of the matrix. -/
theorem pay2_eq (X : Vec F S8192x1 .i32) (n : ℕ) (j : S256x8192.Idx) :
    k0_pay2 (iotaRow (F := F)) (rows X n) j
      = hot X (fun | 0 => (⟨(n * 256 + (j 0).val) % 8192, Nat.mod_lt _ (by decide)⟩ : Fin 8192) | 1 => j 1) := by
  unfold k0_pay2 iotaRow k0_pay1 hot rows
  simp only [shapeCast_self]
  refine congrArg₂ (fun a b : BitVec 32 => FloatOps.sitofp (F := F) .f32 ((IntOp.cmpi .eq a b).setWidth 32 : BitVec 32)) ?_ ?_
  · exact congrArg (BitVec.ofNat 32) (show 0 * 8192 + (j 1).val = (j 1).val by omega)
  · refine congrArg X (funext fun a => ?_)
    match a with
    | ⟨0, _⟩ => rfl
    | ⟨1, _⟩ => rfl

theorem read1 (t : Fin cfg0.N) (X : Vec F S8192x1 .i32) :
    ((cfg0.win 1).blk t).view.read (Elt F) (hot X) = k0_pay2 (iotaRow (F := F)) (rows X t.val) := by
  funext j; show hot X (((cfg0.win 1).blk t).view.emb j) = _; rw [emb1, pay2_eq]

theorem before_0 (c : Dev nD) (t : Fin cfg0.N) (d) : (dat V c).before 0 t d = rows (xIdx V) t.val :=
  ((dat V c).before_in_eq_fetched 0 rfl (fun _ => rfl) (fun _ _ _ => rfl)
    (fun t => by rw [after_0 V c]; unfold Dat.blockOf; rw [A_eq V c]; exact (read0 (F := F) t _).symm) t d).trans
    (by unfold Dat.fetched Dat.blockOf; rw [A_eq V c]; exact read0 (F := F) t _)

/-! ## The body obligation -/

theorem idle2 : ∀ t : Fin cfg0.N, ¬isLast (grid0.coords t) → cfg0.idle 2 (grid0.coords t) = true := by decide +kernel
theorem live2 : ∀ t : Fin cfg0.N, isLast (grid0.coords t) → cfg0.idle 2 (grid0.coords t) = false := by decide +kernel
theorem quiet2 : ∀ t : Fin cfg0.N, ¬isLast (grid0.coords t) → (cfg0.win 2).flush t = false := by decide +kernel

theorem leaves_0 (c : Dev nD) (t : Fin cfg0.N) : (dat V c).leavesExact 0 t = owns (c : Thread nD τ) (st0_0 t) fullShare ((dat V c).after 0 t) := rfl
theorem leaves_1 (c : Dev nD) (t : Fin cfg0.N) : (dat V c).leavesExact 1 t = owns (c : Thread nD τ) (st0_1 t) fullShare ((dat V c).after 1 t) := rfl
theorem leaves_2 (c : Dev nD) (t : Fin cfg0.N) (h : isLast (grid0.coords t)) :
    (dat V c).leavesExact 2 t = owns (c : Thread nD τ) (st0_2 t) fullShare ((dat V c).after 2 t) := by
  unfold Dat.leavesExact; rw [live2 t h]

theorem sound_body (c : Dev nD) (t : Fin cfg0.N) :
    (iprop((dat V c).Φ t.castSucc ∗ (dat V c).owesAt none t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))) : sProp 𝕄)
    ⊢ wp frame (wpE (defs₀ (F := F)) Variants.none c none) Set.univ (bodyAt0 t) (fun _ =>
      iprop((dat V c).Φ t.succ ∗ (dat V c).owesAt none t.succ
      ∗ (dat V c).leavesExact 0 t ∗ (dat V c).leavesExact 1 t ∗ (dat V c).leavesExact 2 t)) := by
  unfold bodyAt0
  rw [show (dat V c).Φ t.succ = inv V c (t.val + 1) from rfl, show (dat V c).Φ t.castSucc = inv V c t.val from rfl,
    show (dat V c).owesAt none t.succ = (dat V c).owesAt none t.castSucc from rfl, leaves_0, leaves_1, after_0, after_1]
  simp only [before_0]
  unfold inv
  iintro ⟨⟨⟨%ds, %hs, HS⟩, ⟨%du, %hu, HU⟩, HR⟩, Ho, ⟨%d0, H0⟩, ⟨%d1, H1⟩, ⟨%d2, H2⟩⟩
  by_cases hf : isFirst (grid0.coords t)
  · have h0 : t.val = 0 := (isFirst_iff t).mp hf
    have hl : ¬isLast (grid0.coords t) := fun h => by have := (isLast_iff t).mp h; omega
    rw [(dat V c).leavesExact_idle 2 t (idle2 t hl) (quiet2 t hl)]
    iapply (run_first c Set.univ (grid0.coords t) _ _ _ _ _ _ _ _ _ _ (rows (xIdx V) t.val) _ hf hl _)
    isplitl [H0]; · iexact H0
    isplitl [H1]; · iexists _; iexact H1
    isplitl [H2]; · iexact H2
    isplitl [HS]; · iexists _; iexact HS
    isplitl [HU]; · iexists _; iexact HU
    iintro ⟨H0, H1, H2, HS, HU⟩
    isplitl [HS HU HR]
    · isplitl [HS]
      · iexists _; isplitr
        swap; · iexact HS
        ipureintro
        intro _; rw [h0]; rfl
      isplitl [HU]
      · iexists _; isplitr
        swap; · iexact HU
        ipureintro
        intro _; rfl
      iexact HR
    isplitl [Ho]; · iexact Ho
    isplitl [H0]; · iexact H0
    isplitl [H1]; · iexact H1
    iexists d2; iexact H2
  have h0 : t.val ≠ 0 := fun h => hf ((isFirst_iff t).mpr h)
  obtain rfl := hs h0
  obtain rfl := hu h0
  by_cases hl : isLast (grid0.coords t)
  · rw [leaves_2 V c t hl, after_2]
    iapply (run_last c Set.univ (grid0.coords t) _ _ _ _ _ _ _ _ _ _ (rows (xIdx V) t.val) _ _ hf hl _)
    isplitl [H0]; · iexact H0
    isplitl [H1]; · iexists _; iexact H1
    isplitl [H2]; · iexists _; iexact H2
    isplitl [HS]; · iexact HS
    isplitl [HU]; · iexact HU
    iintro ⟨H0, H1, H2, HS, HU⟩
    isplitl [HS HU HR]
    · isplitl [HS]
      · iexists _; isplitr
        swap; · iexact HS
        ipureintro
        intro _; rfl
      isplitl [HU]
      · iexists _; isplitr
        swap; · iexact HU
        ipureintro
        intro _; rfl
      iexact HR
    isplitl [Ho]; · iexact Ho
    isplitl [H0]; · iexact H0
    isplitl [H1]; · iexact H1
    iexact H2
  · rw [(dat V c).leavesExact_idle 2 t (idle2 t hl) (quiet2 t hl)]
    iapply (run_mid c Set.univ (grid0.coords t) _ _ _ _ _ _ _ _ _ _ (rows (xIdx V) t.val) _ _ _ hf hl _)
    isplitl [H0]; · iexact H0
    isplitl [H1]; · iexists _; iexact H1
    isplitl [H2]; · iexact H2
    isplitl [HS]; · iexact HS
    isplitl [HU]; · iexact HU
    iintro ⟨H0, H1, H2, HS, HU⟩
    isplitl [HS HU HR]
    · isplitl [HS]
      · iexists _; isplitr
        swap; · iexact HS
        ipureintro
        intro _; rfl
      isplitl [HU]
      · iexists _; isplitr
        swap; · iexact HU
        ipureintro
        intro _; rfl
      iexact HR
    isplitl [Ho]; · iexact Ho
    isplitl [H0]; · iexact H0
    isplitl [H1]; · iexact H1
    iexists d2; iexact H2

theorem defs_row (t : Fin cfg0.N) : defs₀ (F := F) .tc cfg0.body (cfg0.bodyArgs t (cfg0.slots t)) = bodyAt0 t := by
  rfl

theorem body (c : Dev nD) : BodyObligation (dat V c) (defs₀ (F := F)) Variants.none none Set.univ := fun t => by
  rw [bigSep_W0, bigSep_W0, defs_row]
  exact triple_restated (sound_body V c t) rfl .rfl fun _ => .rfl

theorem enter (c : Dev nD) : (Pipeline.scopedRest spec0 c : sProp 𝕄) ⊢ (dat V c).Φ 0 := by
  rw [show (dat V c).Φ 0 = inv V c 0 from rfl, scopedRest0_eq]
  unfold inv others
  iintro ⟨⟨%f0, H0⟩, ⟨%f1, H1⟩, HR⟩
  isplitl [H0]
  · iexists f0; isplitr; · ipureintro; exact fun h => absurd rfl h
    rw [owns_whole]; iexact H0
  isplitl [H1]
  · iexists f1; isplitr; · ipureintro; exact fun h => absurd rfl h
    rw [owns_whole]; iexact H1
  iexact HR

theorem leave (c : Dev nD) : (dat V c).Φ (Fin.last cfg0.N) ⊢ (Pipeline.scopedRest spec0 c : sProp 𝕄) := by
  rw [show (dat V c).Φ (Fin.last cfg0.N) = inv V c cfg0.N from rfl, scopedRest0_eq]
  unfold inv others
  simp only [owns_whole]
  iintro ⟨⟨%f0, -, H0⟩, ⟨%f1, -, H1⟩, HR⟩
  isplitl [H0]; · iexists f0; iexact H0
  isplitl [H1]; · iexists f1; iexact H1
  iexact HR

/-! ## What the call leaves -/

theorem final_1 (c : Dev nD) : (dat V c).arrAt 1 cfg0.N = hot (xIdx V) :=
  (dat V c).arrAt_eq_of_cover 1 (hot (xIdx V))
    (fun t _ => by
      show (cfg0.win 1).cut (grid0.coords t) ((dat V c).after 1 t) = _
      rw [after_1 V c]; exact (read1 (F := F) t _).symm)
    (fun j => by
      have hj : (j 0).val < 8192 := (j 0).isLt
      refine ⟨⟨(j 0).val / 256, Nat.lt_of_lt_of_eq (by omega) N_0.symm⟩, flush0_1 _, ?_⟩
      have h := ((cfg0.win 1).blk ⟨(j 0).val / 256, Nat.lt_of_lt_of_eq (by omega) N_0.symm⟩).view.emb_mem_set
        (fun | 0 => (⟨(j 0).val % 256, Nat.mod_lt _ (by decide)⟩ : Fin 256) | 1 => j 1 : S256x8192.Idx)
      rw [emb1] at h
      convert h using 1
      funext a; apply Fin.ext
      match a with
      | ⟨0, _⟩ => show (j 0).val = ((j 0).val / 256 * 256 + (j 0).val % 256) % 8192; omega
      | ⟨1, _⟩ => rfl)

theorem final_2 (c : Dev nD) : (dat V c).arrAt 2 cfg0.N = csum (xIdx V) 32 :=
  (dat V c).arrAt_eq_of_cover 2 (csum (xIdx V) 32)
    (fun t hf => by
      have ht : t.val = 31 := by
        have := (flush0_2 t).mp hf
        have : t.val < 32 := Nat.lt_of_lt_of_eq t.isLt N_0
        omega
      show (cfg0.win 2).cut (grid0.coords t) ((dat V c).after 2 t) = _
      rw [after_2 V c, ht]; exact (read2 (F := F) t _).symm)
    (fun j => by
      refine ⟨⟨31, Nat.lt_of_lt_of_eq (by omega) N_0.symm⟩, (flush0_2 _).mpr (by decide), ?_⟩
      have h := ((cfg0.win 2).blk ⟨31, Nat.lt_of_lt_of_eq (by omega) N_0.symm⟩).view.emb_mem_set j
      rwa [emb2] at h)

end Cert.Proof.Onehot

end
-- ==== Proof.Finish.lean ====
/-
  The last pipelined call of `kernel`: at its one grid point every window's block is its whole array, and the body
  stores the loss, the perplexity and the rounded-through rows, each computed from the three input arrays.
-/
module

public import proofs.«01_k».proof.Proof.Step
public import Idealize.ShloMosaic.Lib.Pipeline.FrameBody
public import Idealize.ShloMosaic.Lib.Ring
public import Idealize.ShloMosaic.Lib.WordCmp
public import Idealize.ShloMosaic.Lib.Pipeline.Value

@[expose] public section

set_option maxRecDepth 16384

noncomputable section

namespace Cert.Proof.Finish

open Cert.KernelIdeal Cert.KernelIdeal.Gen Cert.Proof.Setup

open Idealize.ShloMosaic Idealize.ShloMosaic.TcCoe Idealize.ShloMosaic.Tactic
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

theorem hz : (![0, 0] : Fin 2 → Nat) = fun _ => 0 := funext fun a => by fin_cases a <;> rfl

abbrev rRows : Rect S8192x256 := Rect.unit (s := S8192x256) ![0, 0] S8192x256.size inb_S8192x256_S8192x256_0_0
abbrev rOne : Rect S1x1 := Rect.unit (s := S1x1) ![0, 0] S1x1.size inb_S1x1_S1x1_0_0

/-- One store through the whole rectangle leaves what it stored. -/
theorem read_one (w : View sig .tc .vmem S1x1 .f32) (f) (p0 : Vec F S1x1 .f32) :
    w.read (Elt F) (w.writes (Elt F) f [⟨rOne, p0⟩]) = p0 :=
  (View.read_writes_eq_canon _ _ _ (fun y => View.cover_of_tiled [⟨rOne, p0⟩] S1x1.size (by rfl) y)).trans
    (View.canon_unit_zero (S := S1x1) hz _ _)
theorem read_rows (w : View sig .tc .vmem S8192x256 .f32) (f) (p0 : Vec F S8192x256 .f32) :
    w.read (Elt F) (w.writes (Elt F) f [⟨rRows, p0⟩]) = p0 :=
  (View.read_writes_eq_canon _ _ _ (fun y => View.cover_of_tiled [⟨rRows, p0⟩] S8192x256.size (by rfl) y)).trans
    (View.canon_unit_zero (S := S8192x256) hz _ _)

set_option maxHeartbeats 1000000 in
/-- The body, on whole buffers: the inputs stay, and each output ends at its value of the inputs. -/
theorem run_body (c : Dev nD) (E : Set ℕ) (arg0 : Memref sig .tc .vmem S8192x256 .f32) (harg0 : arg0.IsWhole)
    (arg1 : Memref sig .tc .vmem S8192x256 .f32) (harg1 : arg1.IsWhole) (arg2 : Memref sig .tc .vmem S1x8192 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S8192x256 .f32) (harg5 : arg5.IsWhole)
    (x0 x1 : Vec F S8192x256 .f32) (x2 : Vec F S1x8192 .f32) (Q : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (k2_pay3 x0 x1) ∗ owns (c : Thread nD τ) arg4 fullShare (k2_pay5 x2)
            ∗ owns (c : Thread nD τ) arg5 fullShare (k2_pay4 x0 x1)) -∗ Q ⟨⟩))
      ⊢ wp frame (wpE (defs₀ (F := F)) Variants.none c none) E (cc2__finish_kernel arg0 harg0 arg1 harg1 arg2 harg2 arg3 harg3 arg4 harg4 arg5 harg5) Q := by
  simp only [cc2__finish_kernel_eq_skeleton]; unfold cc2__finish_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_one _ _ _).trans (congrArg₂ k2_pay3 ?_ ?_) <;> exact View.ld_unit_zero (S := S8192x256) hz _ _
  isplitl [H4]
  · iexists _; isplitr
    swap; · iexact H4
    ipureintro
    refine (read_one _ _ _).trans (congrArg k2_pay5 ?_); exact View.ld_unit_zero (S := S1x8192) hz _ _
  iexists _; isplitr
  swap; · iexact H5
  ipureintro
  refine (read_rows _ _ _).trans (congrArg₂ k2_pay4 ?_ ?_) <;> exact View.ld_unit_zero (S := S8192x256) hz _ _

/-! ## The proof data -/

variable (V : Valuation τ sig (Elt F))

/-- The three input arrays, as the call finds them. -/
abbrev xFlat : Vec F S8192x256 .f32 := V (Proc.devRef .tc (main_v1 : Ref sig .tc))
abbrev xRows : Vec F S8192x256 .f32 := V (Proc.devRef .tc (main_v6 : Ref sig .tc))
abbrev xCounts : Vec F S1x8192 .f32 := V (Proc.devRef .tc (main_v2_1 : Ref sig .tc))

/-- The call's proof data. -/
def dat (c : Dev nD) : Dat τ (Elt F) (HIx 1) ℕ UU ℕ cfg2 c where
  A w := V (Proc.devRef .tc (Pipeline.arrRef spec2 w))
  after w t := match w with
    | ⟨0, _⟩ => xFlat V
    | ⟨1, _⟩ => xRows V
    | ⟨2, _⟩ => xCounts V
    | ⟨3, _⟩ => k2_pay3 (xFlat V) (xRows V)
    | ⟨4, _⟩ => k2_pay5 (xCounts V)
    | ⟨5, _⟩ => k2_pay4 (xFlat V) (xRows V)
  Φ _ := Pipeline.scopedRest spec2 c
  q _ := fullShare
  owed _ := (K (F := F)).Otc c 1
  recorded _ := Step.below (F := F) c 1

theorem A_eq (c : Dev nD) (w : Fin cfg2.W) : (dat V c).A w = V (Proc.devRef .tc (Pipeline.arrRef spec2 w)) := by dsimp only [dat]
theorem after_0 (c : Dev nD) (t : Fin cfg2.N) : (dat V c).after 0 t = xFlat V := by dsimp only [dat]
theorem after_1 (c : Dev nD) (t : Fin cfg2.N) : (dat V c).after 1 t = xRows V := by dsimp only [dat]
theorem after_2 (c : Dev nD) (t : Fin cfg2.N) : (dat V c).after 2 t = xCounts V := by dsimp only [dat]
theorem after_3 (c : Dev nD) (t : Fin cfg2.N) : (dat V c).after 3 t = k2_pay3 (xFlat V) (xRows V) := by dsimp only [dat]
theorem after_4 (c : Dev nD) (t : Fin cfg2.N) : (dat V c).after 4 t = k2_pay5 (xCounts V) := by dsimp only [dat]
theorem after_5 (c : Dev nD) (t : Fin cfg2.N) : (dat V c).after 5 t = k2_pay4 (xFlat V) (xRows V) := by dsimp only [dat]

/-! ## At the one point a block is its array -/

theorem idx0 : ∀ t : Fin cfg2.N, win2_0.index t (0 : Fin 2) = 0 ∧ win2_0.index t (1 : Fin 2) = 0 := (by decide +kernel : ∀ t : Fin grid2.N, _)
theorem idx1 : ∀ t : Fin cfg2.N, win2_1.index t (0 : Fin 2) = 0 ∧ win2_1.index t (1 : Fin 2) = 0 := (by decide +kernel : ∀ t : Fin grid2.N, _)
theorem idx2 : ∀ t : Fin cfg2.N, win2_2.index t (0 : Fin 2) = 0 ∧ win2_2.index t (1 : Fin 2) = 0 := (by decide +kernel : ∀ t : Fin grid2.N, _)
theorem idx3 : ∀ t : Fin cfg2.N, win2_3.index t (0 : Fin 2) = 0 ∧ win2_3.index t (1 : Fin 2) = 0 := (by decide +kernel : ∀ t : Fin grid2.N, _)
theorem idx4 : ∀ t : Fin cfg2.N, win2_4.index t (0 : Fin 2) = 0 ∧ win2_4.index t (1 : Fin 2) = 0 := (by decide +kernel : ∀ t : Fin grid2.N, _)
theorem idx5 : ∀ t : Fin cfg2.N, win2_5.index t (0 : Fin 2) = 0 ∧ win2_5.index t (1 : Fin 2) = 0 := (by decide +kernel : ∀ t : Fin grid2.N, _)

theorem emb0 (t : Fin cfg2.N) (j : S8192x256.Idx) : ((cfg2.win 0).blk t).view.emb j = j := by
  obtain ⟨e0, e1⟩ := idx0 t
  funext a; apply Fin.ext
  match a with
  | ⟨0, _⟩ => show win2_0.index t (0 : Fin 2) * 8192 + 1 * (j 0).val = (j 0).val; omega
  | ⟨1, _⟩ => show win2_0.index t (1 : Fin 2) * 256 + 1 * (j 1).val = (j 1).val; omega
theorem emb1 (t : Fin cfg2.N) (j : S8192x256.Idx) : ((cfg2.win 1).blk t).view.emb j = j := by
  obtain ⟨e0, e1⟩ := idx1 t
  funext a; apply Fin.ext
  match a with
  | ⟨0, _⟩ => show win2_1.index t (0 : Fin 2) * 8192 + 1 * (j 0).val = (j 0).val; omega
  | ⟨1, _⟩ => show win2_1.index t (1 : Fin 2) * 256 + 1 * (j 1).val = (j 1).val; omega
theorem emb2 (t : Fin cfg2.N) (j : S1x8192.Idx) : ((cfg2.win 2).blk t).view.emb j = j := by
  obtain ⟨e0, e1⟩ := idx2 t
  funext a; apply Fin.ext
  match a with
  | ⟨0, _⟩ => show win2_2.index t (0 : Fin 2) * 1 + 1 * (j 0).val = (j 0).val; omega
  | ⟨1, _⟩ => show win2_2.index t (1 : Fin 2) * 8192 + 1 * (j 1).val = (j 1).val; omega
theorem emb3 (t : Fin cfg2.N) (j : S1x1.Idx) : ((cfg2.win 3).blk t).view.emb j = j := by
  obtain ⟨e0, e1⟩ := idx3 t
  funext a; apply Fin.ext
  match a with
  | ⟨0, _⟩ => show win2_3.index t (0 : Fin 2) * 1 + 1 * (j 0).val = (j 0).val; omega
  | ⟨1, _⟩ => show win2_3.index t (1 : Fin 2) * 1 + 1 * (j 1).val = (j 1).val; omega
theorem emb4 (t : Fin cfg2.N) (j : S1x1.Idx) : ((cfg2.win 4).blk t).view.emb j = j := by
  obtain ⟨e0, e1⟩ := idx4 t
  funext a; apply Fin.ext
  match a with
  | ⟨0, _⟩ => show win2_4.index t (0 : Fin 2) * 1 + 1 * (j 0).val = (j 0).val; omega
  | ⟨1, _⟩ => show win2_4.index t (1 : Fin 2) * 1 + 1 * (j 1).val = (j 1).val; omega
theorem emb5 (t : Fin cfg2.N) (j : S8192x256.Idx) : ((cfg2.win 5).blk t).view.emb j = j := by
  obtain ⟨e0, e1⟩ := idx5 t
  funext a; apply Fin.ext
  match a with
  | ⟨0, _⟩ => show win2_5.index t (0 : Fin 2) * 8192 + 1 * (j 0).val = (j 0).val; omega
  | ⟨1, _⟩ => show win2_5.index t (1 : Fin 2) * 256 + 1 * (j 1).val = (j 1).val; omega

theorem read0 (t : Fin cfg2.N) (f : Vec F S8192x256 .f32) : ((cfg2.win 0).blk t).view.read (Elt F) f = f := by
  funext j; show f (((cfg2.win 0).blk t).view.emb j) = f j; rw [emb0]
theorem read1 (t : Fin cfg2.N) (f : Vec F S8192x256 .f32) : ((cfg2.win 1).blk t).view.read (Elt F) f = f := by
  funext j; show f (((cfg2.win 1).blk t).view.emb j) = f j; rw [emb1]
theorem read2 (t : Fin cfg2.N) (f : Vec F S1x8192 .f32) : ((cfg2.win 2).blk t).view.read (Elt F) f = f := by
  funext j; show f (((cfg2.win 2).blk t).view.emb j) = f j; rw [emb2]
theorem read3 (t : Fin cfg2.N) (f : Vec F S1x1 .f32) : ((cfg2.win 3).blk t).view.read (Elt F) f = f := by
  funext j; show f (((cfg2.win 3).blk t).view.emb j) = f j; rw [emb3]
theorem read4 (t : Fin cfg2.N) (f : Vec F S1x1 .f32) : ((cfg2.win 4).blk t).view.read (Elt F) f = f := by
  funext j; show f (((cfg2.win 4).blk t).view.emb j) = f j; rw [emb4]
theorem read5 (t : Fin cfg2.N) (f : Vec F S8192x256 .f32) : ((cfg2.win 5).blk t).view.read (Elt F) f = f := by
  funext j; show f (((cfg2.win 5).blk t).view.emb j) = f j; rw [emb5]

theorem before_0 (c : Dev nD) (t : Fin cfg2.N) (d) : (dat V c).before 0 t d = xFlat V :=
  ((dat V c).before_in_eq_fetched 0 rfl (fun _ => rfl) (fun _ _ _ => rfl)
    (fun t => by rw [after_0 V c]; unfold Dat.blockOf; rw [A_eq V c]; exact (read0 (F := F) t _).symm) t d).trans
    (by unfold Dat.fetched Dat.blockOf; rw [A_eq V c]; exact read0 (F := F) t _)
theorem before_1 (c : Dev nD) (t : Fin cfg2.N) (d) : (dat V c).before 1 t d = xRows V :=
  ((dat V c).before_in_eq_fetched 1 rfl (fun _ => rfl) (fun _ _ _ => rfl)
    (fun t => by rw [after_1 V c]; unfold Dat.blockOf; rw [A_eq V c]; exact (read1 (F := F) t _).symm) t d).trans
    (by unfold Dat.fetched Dat.blockOf; rw [A_eq V c]; exact read1 (F := F) t _)
theorem before_2 (c : Dev nD) (t : Fin cfg2.N) (d) : (dat V c).before 2 t d = xCounts V :=
  ((dat V c).before_in_eq_fetched 2 rfl (fun _ => rfl) (fun _ _ _ => rfl)
    (fun t => by rw [after_2 V c]; unfold Dat.blockOf; rw [A_eq V c]; exact (read2 (F := F) t _).symm) t d).trans
    (by unfold Dat.fetched Dat.blockOf; rw [A_eq V c]; exact read2 (F := F) t _)

/-! ## The body obligation -/

theorem sound_body (c : Dev nD) (t : Fin cfg2.N) :
    (iprop((dat V c).Φ t.castSucc ∗ (dat V c).owesAt none t.castSucc
      ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d))
      ∗ (∃ d, owns (c : Thread nD τ) (st2_3 t) fullShare ((dat V c).before 3 t d))
      ∗ (∃ d, owns (c : Thread nD τ) (st2_4 t) fullShare ((dat V c).before 4 t d))
      ∗ (∃ d, owns (c : Thread nD τ) (st2_5 t) fullShare ((dat V c).before 5 t d))) : sProp 𝕄)
    ⊢ wp frame (wpE (defs₀ (F := F)) Variants.none c none) Set.univ (bodyAt2 t) (fun _ =>
      iprop((dat V c).Φ t.succ ∗ (dat V c).owesAt none t.succ
      ∗ owns (c : Thread nD τ) (st2_0 t) fullShare ((dat V c).after 0 t)
      ∗ owns (c : Thread nD τ) (st2_1 t) fullShare ((dat V c).after 1 t)
      ∗ owns (c : Thread nD τ) (st2_2 t) fullShare ((dat V c).after 2 t)
      ∗ owns (c : Thread nD τ) (st2_3 t) fullShare ((dat V c).after 3 t)
      ∗ owns (c : Thread nD τ) (st2_4 t) fullShare ((dat V c).after 4 t)
      ∗ owns (c : Thread nD τ) (st2_5 t) fullShare ((dat V c).after 5 t))) := by
  unfold bodyAt2
  simp only [before_0, before_1, before_2]
  rw [show (dat V c).Φ t.succ = (dat V c).Φ t.castSucc from rfl,
    show (dat V c).owesAt none t.succ = (dat V c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (run_body c Set.univ _ _ _ _ _ _ _ _ _ _ _ _ (xFlat V) (xRows V) (xCounts V) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs_row (t : Fin cfg2.N) : defs₀ (F := F) .tc cfg2.body (cfg2.bodyArgs t (cfg2.slots t)) = bodyAt2 t := by
  rfl

theorem body (c : Dev nD) : BodyObligation (dat V c) (defs₀ (F := F)) Variants.none none Set.univ := fun t => by
  rw [bigSep_W2, bigSep_W2, defs_row]
  exact triple_restated (sound_body V c t) rfl .rfl fun _ => .rfl

/-! ## What the call leaves -/

theorem final_3 (c : Dev nD) : (dat V c).arrAt 3 cfg2.N = k2_pay3 (xFlat V) (xRows V) :=
  (dat V c).arrAt_eq_of_cover 3 (k2_pay3 (xFlat V) (xRows V))
    (fun t _ => by
      show (cfg2.win 3).cut (grid2.coords t) ((dat V c).after 3 t) = _
      rw [after_3 V c]; exact (read3 (F := F) t _).symm)
    (fun j => ⟨t2_0, flush2_3 _, by
      have h := ((cfg2.win 3).blk t2_0).view.emb_mem_set j
      rwa [emb3] at h⟩)
theorem final_4 (c : Dev nD) : (dat V c).arrAt 4 cfg2.N = k2_pay5 (xCounts V) :=
  (dat V c).arrAt_eq_of_cover 4 (k2_pay5 (xCounts V))
    (fun t _ => by
      show (cfg2.win 4).cut (grid2.coords t) ((dat V c).after 4 t) = _
      rw [after_4 V c]; exact (read4 (F := F) t _).symm)
    (fun j => ⟨t2_0, flush2_4 _, by
      have h := ((cfg2.win 4).blk t2_0).view.emb_mem_set j
      rwa [emb4] at h⟩)
theorem final_5 (c : Dev nD) : (dat V c).arrAt 5 cfg2.N = k2_pay4 (xFlat V) (xRows V) :=
  (dat V c).arrAt_eq_of_cover 5 (k2_pay4 (xFlat V) (xRows V))
    (fun t _ => by
      show (cfg2.win 5).cut (grid2.coords t) ((dat V c).after 5 t) = _
      rw [after_5 V c]; exact (read5 (F := F) t _).symm)
    (fun j => ⟨t2_0, flush2_5 _, by
      have h := ((cfg2.win 5).blk t2_0).view.emb_mem_set j
      rwa [emb5] at h⟩)

end Cert.Proof.Finish

end
-- ==== Proof.Gather.lean ====
/-
  The SparseCore call: thirty-two tiles, each copying four chunks of sixty-four row numbers in, transferring
  those rows of the codebook by an indirect gather, and copying them out to its part of the result. Every
  tile reads the whole table and the whole list of row numbers, at a share of each; the result's chunks are
  apart. What a tile leaves in a chunk is the codebook's rows at the list's words there (`gathered`).
-/
module

public import proofs.«01_k».proof.Proof.Setup

@[expose] public section

noncomputable section

namespace Cert.Proof.Gather

open Cert.KernelIdeal Cert.KernelIdeal.Gen Cert.Proof.Setup

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "tV" => (Memref.whole Cert.KernelIdeal.main_v3_scv : Memref Cert.KernelIdeal.sig Kind.scVector Space.hbm Cert.KernelIdeal.S8192x2x128 EltTy.f32)
local notation "iV" => (Memref.whole Cert.KernelIdeal.main_v4_scv : Memref Cert.KernelIdeal.sig Kind.scVector Space.hbm Cert.KernelIdeal.S8192 EltTy.i32)
local notation "oV" => (Memref.whole Cert.KernelIdeal.main_v5_scv : Memref Cert.KernelIdeal.sig Kind.scVector Space.hbm Cert.KernelIdeal.S8192x2x128 EltTy.f32)
local notation "sV" => (Memref.whole Cert.KernelIdeal.cc1_scratch0 : Memref Cert.KernelIdeal.sig Kind.scVector Space.vmem Cert.KernelIdeal.S64 EltTy.i32)
local notation "rV" => (Memref.whole Cert.KernelIdeal.cc1_scratch1 : Memref Cert.KernelIdeal.sig Kind.scVector Space.vmem Cert.KernelIdeal.S64x2x128 EltTy.f32)

/-! ## The chunks of the result -/

/-- The sixty-four rows of chunk `r` of tile `i` of core `c`: their number among the 128 chunks. -/
def chunkNo (x : (Fin 2 × Fin 16) × Fin 4) : Fin 128 :=
  ⟨8 * x.1.2.val + 4 * x.1.1.val + x.2.val, by have := x.1.2.isLt; have := x.1.1.isLt; have := x.2.isLt; omega⟩

theorem chunkNo_injective : Function.Injective chunkNo := by
  rintro ⟨⟨c, i⟩, r⟩ ⟨⟨c', i'⟩, r'⟩ h
  have h' : 8 * i.val + 4 * c.val + r.val = 8 * i'.val + 4 * c'.val + r'.val := congrArg Fin.val h
  have := c.isLt; have := c'.isLt; have := r.isLt; have := r'.isLt
  have e1 : i = i' := Fin.ext (by omega)
  have e2 : c = c' := Fin.ext (by omega)
  have e3 : r = r' := Fin.ext (by omega)
  rw [e1, e2, e3]

theorem chunkNo_surjective : Function.Surjective chunkNo := by
  intro n
  have := n.isLt
  refine ⟨((⟨n.val / 4 % 2, by omega⟩, ⟨n.val / 8, by omega⟩), ⟨n.val % 4, by omega⟩), Fin.ext ?_⟩
  show 8 * (n.val / 8) + 4 * (n.val / 4 % 2) + n.val % 4 = n.val
  omega

theorem odiv : 128 ∣ S8192x2x128.size 0 := ⟨64, rfl⟩
/-- Chunk `n`'s rows. -/
abbrev orect (n : Fin 128) : Rect S8192x2x128 := Rect.part (s := S8192x2x128) (a₀ := 0) odiv n
/-- Chunk `x`'s elements of the result. -/
def oset (x : (Fin 2 × Fin 16) × Fin 4) : Finset S8192x2x128.Idx := (orect (chunkNo x)).set

theorem oset_disjoint : ∀ x ∈ (Finset.univ : Finset ((Fin 2 × Fin 16) × Fin 4)), ∀ y ∈ (Finset.univ : Finset ((Fin 2 × Fin 16) × Fin 4)),
    x ≠ y → Disjoint (oset x) (oset y) :=
  fun _ _ _ _ h => Rect.part_disjoint odiv fun e => h (chunkNo_injective e)

theorem oset_cover : (Finset.univ : Finset ((Fin 2 × Fin 16) × Fin 4)).biUnion oset = Finset.univ := by
  refine Finset.eq_univ_of_forall fun y => ?_
  have hy : y ∈ (Finset.univ : Finset (Fin 128)).biUnion fun n => (orect n).set := by
    rw [Rect.biUnion_part odiv]; exact Finset.mem_univ y
  obtain ⟨n, -, hn⟩ := Finset.mem_biUnion.mp hy
  obtain ⟨x, rfl⟩ := chunkNo_surjective n
  exact Finset.mem_biUnion.mpr ⟨x, Finset.mem_univ x, hn⟩

/-! ## Shares of the table and the list -/

/-- Share `q` halved `n` times: its part `i`. -/
def part : (n : ℕ) → PosShare TreeShare → Fin (2 ^ n) → PosShare TreeShare
  | 0, q, _ => q
  | n + 1, q, i => if h : i.val % 2 = 0 then part n q.left ⟨i.val / 2, by have := i.isLt; omega⟩ else part n q.right ⟨i.val / 2, by have := i.isLt; omega⟩

/-- A part of the `n + 1`-fold halving is a part of one half: the even ones of the left. -/
def halves (n : ℕ) : Fin (2 ^ n) ⊕ Fin (2 ^ n) ≃ Fin (2 ^ (n + 1)) where
  toFun | .inl i => ⟨2 * i.val, by have := i.isLt; omega⟩
        | .inr i => ⟨2 * i.val + 1, by have := i.isLt; omega⟩
  invFun i := if i.val % 2 = 0 then .inl ⟨i.val / 2, by have := i.isLt; omega⟩ else .inr ⟨i.val / 2, by have := i.isLt; omega⟩
  left_inv := by
    rintro (i | i)
    · simp
    · simp only [show ¬ (2 * i.val + 1) % 2 = 0 by omega, if_false]
      exact congrArg Sum.inr (Fin.ext (show (2 * i.val + 1) / 2 = i.val by omega))
  right_inv := by
    intro i
    by_cases h : i.val % 2 = 0
    · simp only [h, if_true]; exact Fin.ext (show 2 * (i.val / 2) = i.val by omega)
    · simp only [h, if_false]; exact Fin.ext (show 2 * (i.val / 2) + 1 = i.val by omega)

theorem part_even (n : ℕ) (q : PosShare TreeShare) (i : Fin (2 ^ n)) : part (n + 1) q (halves n (.inl i)) = part n q.left i := by
  have e : (halves n (.inl i)).val = 2 * i.val := rfl
  rw [part, dif_pos (by omega)]
  exact congrArg (part n q.left) (Fin.ext (by simp only [e]; omega))

theorem part_odd (n : ℕ) (q : PosShare TreeShare) (i : Fin (2 ^ n)) : part (n + 1) q (halves n (.inr i)) = part n q.right i := by
  have e : (halves n (.inr i)).val = 2 * i.val + 1 := rfl
  rw [part, dif_neg (by omega)]
  exact congrArg (part n q.right) (Fin.ext (by simp only [e]; omega))

/-- A buffer held at a share is held at its parts at once. -/
theorem pointsTo_parts {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{part n q i} f := by
  induction n with
  | zero => exact fun q => (bigSep_univ_of_subsingleton (0 : Fin 1) (Φ := fun i : Fin (2 ^ 0) => (ℓ ↦[I]{part 0 q i} f : sProp 𝕄))).symm
  | succ n ih =>
    intro q
    have hs := pointsTo_share (nD := nD) (τ := τ) (sig := sig) (Ix := HIx 1) (Val := Elt F) (Name := ℕ) (U := UU) (Lvl := ℕ)
      (ℓ := ℓ) (I := I) (f := f) (PosShare.mem_left_op_right q)
    rw [BI.Entails.antisymm hs.1 hs.2, ih q.left, ih q.right,
      bigSep_univ_equiv (halves n) (fun i : Fin (2 ^ (n + 1)) => (ℓ ↦[I]{part (n + 1) q i} f : sProp 𝕄)), bigSep_univ_sum]
    congr 1 <;> refine bigSep_congr fun i _ => ?_
    · rw [part_even]
    · rw [part_odd]

/-- Tile `i` of core `c`'s part. -/
abbrev sh (x : Fin 2 × Fin 16) : PosShare TreeShare := part 5 fullShare ((finProdFinEquiv : Fin 2 × Fin 16 ≃ Fin 32) x)

/-! ## What is gathered -/

/-- Row `r` of the result as an element of the list. -/
def atRow (y : S8192x2x128.Idx) : S8192.Idx := fun | 0 => y 0
/-- Lane `y` of the table's row `w`. -/
def atWord (w : ℕ) (y : S8192x2x128.Idx) : S8192x2x128.Idx :=
  fun | 0 => (⟨w % 8192, Nat.mod_lt _ (by decide)⟩ : Fin 8192) | 1 => y 1 | 2 => y 2

/-- The codebook's rows at the words of the list. -/
def gathered (ct : S8192x2x128.Idx → Elt F .f32) (ci : S8192.Idx → Elt F .i32) : S8192x2x128.Idx → Elt F .f32 :=
  fun y => ct (atWord (BitVec.toNat (ci (atRow y))) y)

variable [FloatOps F]

/-! ## What the handshakes carry -/

section Carried

variable (ct : (d : Dev nD) → Buf (Elt F) (tabLoc d)) (ci : (d : Dev nD) → Buf (Elt F) (idxLoc d))
variable (co : (d : Dev nD) → Buf (Elt F) (outLoc d))

/-- What a tile is handed: its shares of the table and the list, and its four chunks of the result, -/
abbrev tileIn (d : Dev nD) (x : Fin 2 × Fin 16) : sProp 𝕄 :=
  iprop((tabLoc d ↦{sh x} ct d) ∗ (idxLoc d ↦{sh x} ci d) ∗ bigSep Finset.univ fun r : Fin 4 => outLoc d ↦[oset (x, r)]{fullShare} co d)
/-- and what it hands back: the chunks at the gathered rows. -/
abbrev tileOut (d : Dev nD) (x : Fin 2 × Fin 16) : sProp 𝕄 :=
  iprop((tabLoc d ↦{sh x} ct d) ∗ (idxLoc d ↦{sh x} ci d)
    ∗ bigSep Finset.univ fun r : Fin 4 => outLoc d ↦[oset (x, r)]{fullShare} gathered (ct d) (ci d))

def P : (K (F := F)).Pay (nD := nD) (Val := Elt F) (Name := ℕ) (U := UU) where
  st := fun q d c => match q with | 0 => bigSep Finset.univ fun i : Fin 16 => tileIn ct ci co d (Fin.cast nCore_zero c, i)
  dn := fun q d c => match q with | 0 => bigSep Finset.univ fun i : Fin 16 => tileOut ct ci d (Fin.cast nCore_zero c, i)
  go := fun q d c i => match q with | 0 => tileIn ct ci co d (Fin.cast nCore_zero c, Fin.cast nSub_zero i)
  td := fun q d c i => match q with | 0 => tileOut ct ci d (Fin.cast nCore_zero c, Fin.cast nSub_zero i)
  x := fun _ _ => iprop(emp)

instance P_storable : (P ct ci co).IsStorable where
  st q d c := match q with
    | 0 => (inferInstance : BI.Storable (upEmb : UEmb _ 𝕄) (bigSep Finset.univ fun i : Fin 16 => tileIn ct ci co d (Fin.cast nCore_zero c, i)))
  dn q d c := match q with
    | 0 => (inferInstance : BI.Storable (upEmb : UEmb _ 𝕄) (bigSep Finset.univ fun i : Fin 16 => tileOut ct ci d (Fin.cast nCore_zero c, i)))
  go q d c i := match q with
    | 0 => (inferInstance : BI.Storable (upEmb : UEmb _ 𝕄) (tileIn ct ci co d (Fin.cast nCore_zero c, Fin.cast nSub_zero i)))
  td q d c i := match q with
    | 0 => (inferInstance : BI.Storable (upEmb : UEmb _ 𝕄) (tileOut ct ci d (Fin.cast nCore_zero c, Fin.cast nSub_zero i)))

/-- Every word of the list names a row of the table. -/
def PreOK : Prop := ∀ (d : Dev nD) (j : S8192.Idx), (BitVec.toNat (ci d j)) < 8192

end Carried

/-! ## The tile -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's number. -/
abbrev xL (L : grid1.Coords) : Fin 2 × Fin 16 := (Fin.cast bound_zero (L 0), Fin.cast bound_one (L 1))
abbrev thrV (d : Dev nD) (L : grid1.Coords) : Thread nD τ := V d (cV L) (jV L)

abbrev oK (L : grid1.Coords) (c : BitVec 32) (h : ∀ a, (k1_off2 L c) a + S64x2x128.size a ≤ S8192x2x128.size a) : Memref sig .scVector .hbm S64x2x128 .f32 :=
  (oV).slice (Rect.unit (s := S8192x2x128) (k1_off2 L c) S64x2x128.size h) (fun _ => rfl)
abbrev iK (L : grid1.Coords) (c : BitVec 32) (h : ∀ a, (k1_off1 L c) a + S64.size a ≤ S8192.size a) : Memref sig .scVector .hbm S64 .i32 :=
  (iV).slice (Rect.unit (s := S8192) (k1_off1 L c) S64.size h) (fun _ => rfl)

omit [FloatOps F] in
theorem orectK_eq (r : Fin 4) :
    Rect.unit (s := S8192x2x128) (k1_off2 L (BitVec.ofNat 32 (64 * r.val))) S64x2x128.size (k1_off2_inb L r) = orect (chunkNo (xL L, r)) := by
  unfold orect Rect.part Rect.block
  congr 1 <;> funext a
  · rw [k1_off2_eq]
    match a with
    | 0 =>
      show 512 * (L 1).val + 256 * (L 0).val + 64 * r.val = (8 * (L 1).val + 4 * (L 0).val + r.val) * 64
      omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_oK (r : Fin 4) : (oK L (BitVec.ofNat 32 (64 * r.val)) (k1_off2_inb L r)).view.set = oset (xL L, r) := by
  show ((View.whole (main_v5_scv : Ref sig .scVector)).slice _).set = _
  rw [View.set_slice, orectK_eq]; exact Finset.map_refl

omit [FloatOps F] in
theorem pts_oK (r : Fin 4) (f : Buf (Elt F) (outLoc d)) :
    ((oK L (BitVec.ofNat 32 (64 * r.val)) (k1_off2_inb L r)).view.loc (thrV d L)
        ↦[(oK L (BitVec.ofNat 32 (64 * r.val)) (k1_off2_inb L r)).view.set]{fullShare} f : sProp 𝕄)
      = outLoc d ↦[oset (xL L, r)]{fullShare} f := by
  rw [set_oK]

omit [FloatOps F] in
/-- A cell of the tile's own is one of its cells. -/
theorem mem_own (sm : SemLoc sig) (h : sm.isScoped .scVector = true) : ((thrV d L, sm) : GSem nD τ sig) ∈ ownCells (thrV d L) :=
  mem_ownCells.mpr ⟨rfl, h⟩
omit [FloatOps F] in
theorem mem_erase_cell {S : Finset (GSem nD τ sig)} {sm sm' : SemLoc sig} (h : sm ≠ sm') (hS : ((thrV d L, sm) : GSem nD τ sig) ∈ S) :
    ((thrV d L, sm) : GSem nD τ sig) ∈ S.erase (thrV d L, sm') :=
  Finset.mem_erase.mpr ⟨fun e => h (congrArg Prod.snd e), hS⟩

/-- The tile's cells the kernel does not use. -/
abbrev restCells (d : Dev nD) (L : grid1.Coords) : Finset (GSem nD τ sig) :=
  (((((((((ownCells (thrV d L)).erase (thrV d L, .dma cc1_scratch2.sem)).erase (thrV d L, .dma cc1_scoped0.sem)).erase (thrV d L, .dma cc1_scoped1.sem)).erase
    (thrV d L, .dma cc1_scoped2.sem)).erase (thrV d L, .dma cc1_scoped3.sem)).erase (thrV d L, .dma cc1_scoped4.sem)).erase (thrV d L, .dma cc1_scoped5.sem)).erase
    (thrV d L, .dma cc1_scoped6.sem)).erase (thrV d L, .dma cc1_scoped7.sem)

omit [FloatOps F] in
theorem ownSems0_V :
    (ownSems0 (thrV d L) : sProp 𝕄)
      = iprop(semVal (thrV d L, .dma cc1_scratch2.sem) 0 ∗ semVal (thrV d L, .dma cc1_scoped0.sem) 0 ∗ semVal (thrV d L, .dma cc1_scoped1.sem) 0
          ∗ semVal (thrV d L, .dma cc1_scoped2.sem) 0 ∗ semVal (thrV d L, .dma cc1_scoped3.sem) 0 ∗ semVal (thrV d L, .dma cc1_scoped4.sem) 0
          ∗ semVal (thrV d L, .dma cc1_scoped5.sem) 0 ∗ semVal (thrV d L, .dma cc1_scoped6.sem) 0 ∗ semVal (thrV d L, .dma cc1_scoped7.sem) 0
          ∗ bigSep (restCells d L) fun g => semVal g 0) := by
  unfold SparseCore.Cfg.ownSems0
  rw [SparseCore.bigSep_erase' (mem_own d L (.dma cc1_scratch2.sem) (by decide)),
    SparseCore.bigSep_erase' (mem_erase_cell d L (by decide) (mem_own d L (.dma cc1_scoped0.sem) (by decide))),
    SparseCore.bigSep_erase' (mem_erase_cell d L (by decide) (mem_erase_cell d L (by decide) (mem_own d L (.dma cc1_scoped1.sem) (by decide)))),
    SparseCore.bigSep_erase' (mem_erase_cell d L (by decide) (mem_erase_cell d L (by decide) (mem_erase_cell d L (by decide) (mem_own d L (.dma cc1_scoped2.sem) (by decide))))),
    SparseCore.bigSep_erase' (mem_erase_cell d L (by decide) (mem_erase_cell d L (by decide) (mem_erase_cell d L (by decide) (mem_erase_cell d L (by decide)
      (mem_own d L (.dma cc1_scoped3.sem) (by decide)))))),
    SparseCore.bigSep_erase' (mem_erase_cell d L (by decide) (mem_erase_cell d L (by decide) (mem_erase_cell d L (by decide) (mem_erase_cell d L (by decide)
      (mem_erase_cell d L (by decide) (mem_own d L (.dma cc1_scoped4.sem) (by decide))))))),
    SparseCore.bigSep_erase' (mem_erase_cell d L (by decide) (mem_erase_cell d L (by decide) (mem_erase_cell d L (by decide) (mem_erase_cell d L (by decide)
      (mem_erase_cell d L (by decide) (mem_erase_cell d L (by decide) (mem_own d L (.dma cc1_scoped5.sem) (by decide)))))))),
    SparseCore.bigSep_erase' (mem_erase_cell d L (by decide) (mem_erase_cell d L (by decide) (mem_erase_cell d L (by decide) (mem_erase_cell d L (by decide)
      (mem_erase_cell d L (by decide) (mem_erase_cell d L (by decide) (mem_erase_cell d L (by decide) (mem_own d L (.dma cc1_scoped6.sem) (by decide))))))))),
    SparseCore.bigSep_erase' (mem_erase_cell d L (by decide) (mem_erase_cell d L (by decide) (mem_erase_cell d L (by decide) (mem_erase_cell d L (by decide)
      (mem_erase_cell d L (by decide) (mem_erase_cell d L (by decide) (mem_erase_cell d L (by decide) (mem_erase_cell d L (by decide) (mem_own d L (.dma cc1_scoped7.sem) (by decide))))))))))]

omit [FloatOps F] in
/-- The two scratch buffers are among the tile's own. -/
theorem ownBufs_V :
    (ownBufs (thrV d L) : sProp 𝕄)
      = iprop((∃ f, (thrV d L).loc cc1_scratch0 ↦{fullShare} f) ∗ (∃ f, (thrV d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Tile

end Cert.Proof.Gather

end
-- ==== Proof.Tile.lean ====
/-
  One tile's run of the gather kernel, at a symbolic core and subcore: four chunks one after the other, each a
  copy of sixty-four words of the list in, an indirect gather of those rows of the table, and a copy out.
-/
module

public import proofs.«01_k».proof.Proof.Gather

@[expose] public section

noncomputable section

namespace Cert.Proof.Gather

open Cert.KernelIdeal Cert.KernelIdeal.Gen Cert.Proof.Setup

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "tV" => (Memref.whole Cert.KernelIdeal.main_v3_scv : Memref Cert.KernelIdeal.sig Kind.scVector Space.hbm Cert.KernelIdeal.S8192x2x128 EltTy.f32)
local notation "iV" => (Memref.whole Cert.KernelIdeal.main_v4_scv : Memref Cert.KernelIdeal.sig Kind.scVector Space.hbm Cert.KernelIdeal.S8192 EltTy.i32)
local notation "oV" => (Memref.whole Cert.KernelIdeal.main_v5_scv : Memref Cert.KernelIdeal.sig Kind.scVector Space.hbm Cert.KernelIdeal.S8192x2x128 EltTy.f32)
local notation "sV" => (Memref.whole Cert.KernelIdeal.cc1_scratch0 : Memref Cert.KernelIdeal.sig Kind.scVector Space.vmem Cert.KernelIdeal.S64 EltTy.i32)
local notation "rV" => (Memref.whole Cert.KernelIdeal.cc1_scratch1 : Memref Cert.KernelIdeal.sig Kind.scVector Space.vmem Cert.KernelIdeal.S64x2x128 EltTy.f32)

variable (ct : (d : Dev nD) → Buf (Elt F) (tabLoc d)) (ci : (d : Dev nD) → Buf (Elt F) (idxLoc d))
variable (co : (d : Dev nD) → Buf (Elt F) (outLoc d))
variable (d : Dev nD) (L : grid1.Coords)

/-- A separating conjunction of four. -/
theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The list's words a copy lands in the tile's scratch are in range, whatever the scratch held. -/
theorem inb_of_pre (hpre : PreOK ci) (c : BitVec 32) (h : ∀ a, (k1_off1 L c) a + S64.size a ≤ S8192.size a)
    (g : Buf (Elt F) ((thrV d L).loc cc1_scratch0)) :
    ∀ x, (BitVec.toNat ((sV).view.read (Elt F) (View.write (Elt F) (sV).view g (ReadAs.same.apply ((iK L c h).view.read (Elt F) (ci d))) Finset.univ) x))
      < S8192x2x128.size gathers_S8192x2x128_S64x2x128.axis := by
  intro x
  rw [View.write_whole_univ]
  simp only [Memref.view_whole, View.read_whole]
  exact hpre d _

/-- The row a list's entry of number `k` names is the word at index `k`. -/
theorem rows_val {z : ℕ} (w : S64.Idx → Elt F .i32) (hn : S64.numel = 64) (h : ∀ x, (BitVec.toNat (w x)) < z) (k : Fin 64) (j : S64.Idx) (hj : (j 0).val = k.val) :
    (SparseCore.rows w hn h k).val = BitVec.toNat (w j) := by
  have e : S64.rowMajor.symm (k.cast hn.symm) = j := by
    rw [Equiv.symm_apply_eq]
    exact Fin.ext (by rw [Shape.rowMajor_val_one]; exact hj.symm)
  show BitVec.toNat (w (S64.rowMajor.symm (k.cast hn.symm))) = _
  rw [e]

/-- A gather of chunk `r`'s rows delivers the gathered rows at chunk `r`'s elements. -/
theorem gather_val (hpre : PreOK ci) (r : Fin 4) (g : Buf (Elt F) ((thrV d L).loc cc1_scratch0)) (hn : S64.numel = 64)
    (hin : ∀ x, (BitVec.toNat ((sV).view.read (Elt F) (View.write (Elt F) (sV).view g
      (ReadAs.same.apply ((iK L (BitVec.ofNat 32 (64 * r.val)) (k1_off1_inb L r)).view.read (Elt F) (ci d))) Finset.univ) x))
      < S8192x2x128.size gathers_S8192x2x128_S64x2x128.axis)
    (h3 : ∀ a, (![0, 0, 0] : Fin 3 → ℕ) a + S8192x2x128.size a ≤ S8192x2x128.size a) (x : S64x2x128.Idx) :
    SparseCore.gatherPayload gathers_S8192x2x128_S64x2x128
        (((tV).slice (Rect.unit (s := S8192x2x128) ![0, 0, 0] S8192x2x128.size h3) (fun _ => rfl)).view.read (Elt F) (ct d))
        (SparseCore.rows ((sV).view.read (Elt F) (View.write (Elt F) (sV).view g
          (ReadAs.same.apply ((iK L (BitVec.ofNat 32 (64 * r.val)) (k1_off1_inb L r)).view.read (Elt F) (ci d))) Finset.univ)) hn hin) x
      = gathered (ct d) (ci d) ((oK L (BitVec.ofNat 32 (64 * r.val)) (k1_off2_inb L r)).view.emb x) := by
  have hx0 : (x 0).val < 64 := (x 0).isLt
  -- the list's word for row `x 0`
  let j : S64.Idx := fun | 0 => x 0
  have hw : (sV).view.read (Elt F) (View.write (Elt F) (sV).view g
      (ReadAs.same.apply ((iK L (BitVec.ofNat 32 (64 * r.val)) (k1_off1_inb L r)).view.read (Elt F) (ci d))) Finset.univ) j
      = ci d (atRow ((oK L (BitVec.ofNat 32 (64 * r.val)) (k1_off2_inb L r)).view.emb x)) := by
    rw [View.write_whole_univ]
    simp only [Memref.view_whole, View.read_whole]
    show ci d ((iK L (BitVec.ofNat 32 (64 * r.val)) (k1_off1_inb L r)).view.emb j) = _
    congr 1
    funext a
    match a with
    | 0 =>
      apply Fin.ext
      show k1_off1 L (BitVec.ofNat 32 (64 * r.val)) 0 + 1 * (x 0).val = k1_off2 L (BitVec.ofNat 32 (64 * r.val)) 0 + 1 * (x 0).val
      rw [k1_off1_eq, k1_off2_eq]; rfl
  show ct d _ = ct d _
  congr 1
  funext a
  match a with
  | 0 =>
    apply Fin.ext
    show 0 + 1 * (SparseCore.rows _ hn hin (x 0)).val = BitVec.toNat _ % 8192
    rw [rows_val _ hn hin (x 0) j rfl, hw, Nat.mod_eq_of_lt (hpre d _)]
    omega
  | 1 =>
    apply Fin.ext
    show 0 + 1 * (x 1).val = k1_off2 L (BitVec.ofNat 32 (64 * r.val)) 1 + 1 * (x 1).val
    rw [k1_off2_eq]; rfl
  | 2 =>
    apply Fin.ext
    show 0 + 1 * (x 2).val = k1_off2 L (BitVec.ofNat 32 (64 * r.val)) 2 + 1 * (x 2).val
    rw [k1_off2_eq]; rfl

/-- A piece written last through the whole of a view reads back as its payload. -/
theorem read_last {κ : Kind} {sp : Space} {s : Shape} {e : EltTy} (v : View sig κ sp s e) (f : v.ty.Contents (Elt F)) (w : s.Idx → Elt F e)
    (l : List (View.Piece (Elt F) s e)) (x : s.Idx) : v.read (Elt F) (v.writes (Elt F) f (⟨Rect.whole s, w⟩ :: l)) x = w x := by
  have h := View.read_writes_cons_emb (Val := Elt F) v f (Rect.whole s) w l x
  rwa [Rect.emb_whole_apply] at h

/-- A view's elements written whole are held at any contents that read the same. -/
theorem written {thr : Thread nD τ} {sp : Space} {s : Shape} {e : EltTy} (v : View sig thr.2.kind sp s e) (f g : v.ty.Contents (Elt F)) (w : s.Idx → Elt F e)
    (h : ∀ x, w x = v.read (Elt F) g x) :
    (v.loc thr ↦[v.set]{fullShare} v.writes (Elt F) f [⟨Rect.whole s, w⟩] : sProp 𝕄) ⊢ v.loc thr ↦[v.set]{fullShare} g := by
  refine Entails.of_eq (pointsTo_congr fun y hy => ?_)
  obtain ⟨x, -, rfl⟩ := Finset.mem_map.mp hy
  have e := (read_last (F := F) v f w [] x).trans (h x)
  rw [View.read_apply, View.read_apply] at e
  exact (cast_inj _).mp e

/-- A chunk written with the gathered rows is a chunk of the gathered array. -/
theorem chunk_done (r : Fin 4) (f : Buf (Elt F) (outLoc d)) (w : S64x2x128.Idx → Elt F .f32)
    (hw : ∀ x, w x = gathered (ct d) (ci d) ((oK L (BitVec.ofNat 32 (64 * r.val)) (k1_off2_inb L r)).view.emb x)) :
    ((oK L (BitVec.ofNat 32 (64 * r.val)) (k1_off2_inb L r)).view.loc (thrV d L)
        ↦[(oK L (BitVec.ofNat 32 (64 * r.val)) (k1_off2_inb L r)).view.set]{fullShare}
          (oK L (BitVec.ofNat 32 (64 * r.val)) (k1_off2_inb L r)).view.writes (Elt F) f [⟨Rect.whole S64x2x128, w⟩] : sProp 𝕄)
      ⊢ outLoc d ↦[oset (xL L, r)]{fullShare} gathered (ct d) (ci d) := by
  rw [← pts_oK (F := F) d L r]
  exact written (F := F) (thr := thrV d L) (oK L (BitVec.ofNat 32 (64 * r.val)) (k1_off2_inb L r)).view f (gathered (ct d) (ci d)) w hw

set_option maxHeartbeats 4000000 in
theorem tile_body (hF : (K (F := F)).Facts) (hpre : PreOK ci) (O : CellTallies nD τ sig (HIx 1)) (W : Waits sig (HIx 1)) (hO : ∀ g, O g none = 0) :
    iprop(levAts (K (F := F)).L (K (F := F)).lev ∗ emp ∗ tileIn ct ci co d (xL L)
        ∗ scopedBufs (thrV d L) ∗ scopedSems0 (thrV d L) ∗ owes (thrV d L) O W)
      ⊢ wp frame (wpE (defs₀ (F := F)) 𝒱₀ (thrV d L) none) Set.univ
          (cc1__zq_gather_kernel L tV (Memref.isWhole_whole _) iV (Memref.isWhole_whole _) oV (Memref.isWhole_whole _)
            sV (Memref.isWhole_whole _) rV (Memref.isWhole_whole _) cc1_scratch2 cc1_scoped0 cc1_scoped1 cc1_scoped2 cc1_scoped3 cc1_scoped4
            cc1_scoped5 cc1_scoped6 cc1_scoped7)
          fun _ => iprop(tileOut ct ci d (xL L) ∗ scopedBufs (thrV d L) ∗ scopedSems0 (thrV d L)
            ∗ ∃ W', ⌜∀ p ∈ W', p ∈ W ∨ p.2 = none⌝ ∗ owes (thrV d L) O W') := by
  simp only [cc1__zq_gather_kernel_eq_skeleton]; unfold cc1__zq_gather_kernel_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_V, ownBufs_V]
  unfold tileIn tileOut
  rw [four, four]
  have hin0 := inb_of_pre ci d L hpre 0#32 (k1_off1_inb L 0)
  have hin1 := inb_of_pre ci d L hpre 64#32 (k1_off1_inb L 1)
  have hin2 := inb_of_pre ci d L hpre 128#32 (k1_off1_inb L 2)
  have hin3 := inb_of_pre ci d L hpre 192#32 (k1_off1_inb L 3)
  iintro ⟨#Hlv, -, ⟨Ht, Hi, Ho0, Ho1, Ho2, Ho3⟩, ⟨⟨%fs, Hs⟩, ⟨%fr, Hr⟩, Hbufs⟩, ⟨HG, HS0, HS1, HS2, HS3, HS4, HS5, HS6, HS7, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hi := (show (idxLoc d ↦{sh (xL L)} ci d : sProp 𝕄) ⊢ (iV).view.loc (thrV d L) ↦{sh (xL L)} ci d from BI.Entails.refl _) $$ Hi
  ihave Ht := (show (tabLoc d ↦{sh (xL L)} ct d : sProp 𝕄) ⊢ (tV).view.loc (thrV d L) ↦{sh (xL L)} ct d from BI.Entails.refl _) $$ Ht
  ihave Hs := (show ((thrV d L).loc cc1_scratch0 ↦{fullShare} fs : sProp 𝕄) ⊢ (sV).view.loc (thrV d L) ↦{fullShare} fs from BI.Entails.refl _) $$ Hs
  ihave Hr := (show ((thrV d L).loc cc1_scratch1 ↦{fullShare} fr : sProp 𝕄) ⊢ (rV).view.loc (thrV d L) ↦{fullShare} fr from BI.Entails.refl _) $$ Hr
  ihave Ho0 := (Entails.of_eq (pts_oK (F := F) d L 0 _).symm) $$ Ho0
  ihave Ho1 := (Entails.of_eq (pts_oK (F := F) d L 1 _).symm) $$ Ho1
  ihave Ho2 := (Entails.of_eq (pts_oK (F := F) d L 2 _).symm) $$ Ho2
  ihave Ho3 := (Entails.of_eq (pts_oK (F := F) d L 3 _).symm) $$ Ho3
  sl_exec
  have h0 : ∀ x, tile_body.sl.dma0_1 ct ci d L hin0 fs fr x = _ := fun x => (read_last (F := F) (rV).view _ _ _ x).trans (gather_val ct ci d L hpre 0 _ _ _ _ x)
  have h1 : ∀ x, tile_body.sl.dma0_3 ct ci d L hin0 hin1 fs fr x = _ := fun x => (read_last (F := F) (rV).view _ _ _ x).trans (gather_val ct ci d L hpre 1 _ _ _ _ x)
  have h2 : ∀ x, tile_body.sl.dma0_5 ct ci d L hin0 hin1 hin2 fs fr x = _ := fun x => (read_last (F := F) (rV).view _ _ _ x).trans (gather_val ct ci d L hpre 2 _ _ _ _ x)
  have h3 : ∀ x, tile_body.sl.dma0_7 ct ci d L hin0 hin1 hin2 hin3 fs fr x = _ := fun x => (read_last (F := F) (rV).view _ _ _ x).trans (gather_val ct ci d L hpre 3 _ _ _ _ x)
  ihave Ho0 := (chunk_done ct ci d L 0 _ _ h0) $$ Ho0
  ihave Ho1 := (chunk_done ct ci d L 1 _ _ h1) $$ Ho1
  ihave Ho2 := (chunk_done ct ci d L 2 _ _ h2) $$ Ho2
  ihave Ho3 := (chunk_done ct ci d L 3 _ _ h3) $$ Ho3
  sl_step
  isplitl [Hi Ht Ho0 Ho1 Ho2 Ho3]
  · isplitl [Ht]; · iexact Ht
    isplitl [Hi]; · iexact Hi
    isplitl [Ho0]; · iexact Ho0
    isplitl [Ho1]; · iexact Ho1
    isplitl [Ho2]; · iexact Ho2
    iexact Ho3
  isplitl [Hs Hr Hbufs]
  · isplitl [Hs]; · iexists _; iexact Hs
    isplitl [Hr]; · iexists _; iexact Hr
    iexact Hbufs
  isplitl [HG HS0 HS1 HS2 HS3 HS4 HS5 HS6 HS7 Hsems]
  · isplitl [HG]; · iexact HG
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact Hsems
  iexists _; isplitr
  swap; · iexact HO
  ipureintro; intro p hp
  iterate 12
    rcases Finset.mem_insert.mp hp with hp | hp
    · exact .inr (hp ▸ rfl)
  exact .inl hp

/-! ## The obligations of the launch -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__zq_gather_kernel (coordsV c s) tV (Memref.isWhole_whole _) iV (Memref.isWhole_whole _) oV (Memref.isWhole_whole _)
            sV (Memref.isWhole_whole _) rV (Memref.isWhole_whole _) cc1_scratch2 cc1_scoped0 cc1_scoped1 cc1_scoped2 cc1_scoped3 cc1_scoped4
            cc1_scoped5 cc1_scoped6 cc1_scoped7) ⟨⟩ c s := rfl

/-- The waits a tile leaves recorded are its own. -/
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right <| sep_mono_right <| sep_mono_right <| exists_mono fun _ =>
    sep_mono_left (BI.pure_mono fun h p hp => (h p hp).imp_right Or.inl)

set_option maxRecDepth 16384 in
theorem tileObl (hF : (K (F := F)).Facts) (hpre : PreOK ci) : (K (F := F)).TileObl (D (F := F)) 𝒱 (P ct ci co) v₀ 0 := by
  intro d c i O W hO _ _
  simp only [show (P ct ci co).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ct ci co d (coordsV ⟨_, hci.1⟩ ⟨_, hci.2⟩) hF hpre O W hO).trans (wp_mono frame _ _ fun _ => own_waits)

theorem tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's operands are its tiles'. -/
theorem vecSplit : (K (F := F)).VecSplit' (P ct ci co) 0 := by
  intro d c
  show (bigSep Finset.univ fun i : Fin 16 => tileIn ct ci co d (Fin.cast nCore_zero c, i)) ⊢ |={Set.univ}=> iprop(
      (bigSep Finset.univ fun i : Fin ((K (F := F)).nSub 0) => tileIn ct ci co d (Fin.cast nCore_zero c, Fin.cast nSub_zero i))
      ∗ ((bigSep Finset.univ fun i : Fin ((K (F := F)).nSub 0) => tileOut ct ci d (Fin.cast nCore_zero c, Fin.cast nSub_zero i))
          -∗ bigSep Finset.univ fun i : Fin 16 => tileOut ct ci d (Fin.cast nCore_zero c, i)))
  rw [tasks (F := F) (fun i => tileIn ct ci co d (Fin.cast nCore_zero c, i)), tasks (F := F) (fun i => tileOut ct ci d (Fin.cast nCore_zero c, i))]
  iintro H; imodintro
  isplitl [H]; · iexact H
  iintro H; iexact H

/-! ## The three arrays, split among the tiles and joined again -/

theorem out_chunks (d : Dev nD) (f : Buf (Elt F) (outLoc d)) :
    (outLoc d ↦{fullShare} f : sProp 𝕄)
      = bigSep Finset.univ fun x : Fin 2 × Fin 16 => bigSep Finset.univ fun r : Fin 4 => outLoc d ↦[oset (x, r)]{fullShare} f := by
  rw [← bigSep_univ_prod (fun x : (Fin 2 × Fin 16) × Fin 4 => (outLoc d ↦[oset x]{fullShare} f : sProp 𝕄)),
    ← pointsTo_biUnion Finset.univ (ℓ := outLoc d) oset oset_disjoint, oset_cover]; try rfl

theorem all_shares {ℓ : Loc nD τ sig} (f : Buf (Elt F) ℓ) :
    (ℓ ↦{fullShare} f : sProp 𝕄) = bigSep Finset.univ fun x : Fin 2 × Fin 16 => ℓ ↦{sh x} f := by
  rw [pointsTo_parts (F := F) Finset.univ f 5 fullShare, bigSep_univ_equiv (finProdFinEquiv : Fin 2 × Fin 16 ≃ Fin 32)]

/-- The call's operands: the three arrays whole. -/
theorem st_eq (d : Dev nD) : (bigSep Finset.univ fun c : Fin ((K (F := F)).nCore 0) => (P ct ci co).st 0 d c)
    = iprop((tabLoc d ↦{fullShare} ct d) ∗ (idxLoc d ↦{fullShare} ci d) ∗ outLoc d ↦{fullShare} co d) := by
  rw [show (bigSep Finset.univ fun c : Fin ((K (F := F)).nCore 0) => (P ct ci co).st 0 d c)
      = bigSep Finset.univ fun c : Fin 2 => bigSep Finset.univ fun i : Fin 16 => tileIn ct ci co d (c, i)
    from cores (F := F) fun c => bigSep Finset.univ fun i : Fin 16 => tileIn ct ci co d (c, i),
    ← bigSep_univ_prod (fun x : Fin 2 × Fin 16 => tileIn ct ci co d x), all_shares (F := F) (ct d), all_shares (F := F) (ci d), out_chunks]
  unfold tileIn
  rw [bigSep_sep', bigSep_sep']

/-- The call's results: the same, the result at the gathered rows. -/
theorem dn_eq (d : Dev nD) : (bigSep Finset.univ fun c : Fin ((K (F := F)).nCore 0) => (P ct ci co).dn 0 d c)
    = iprop((tabLoc d ↦{fullShare} ct d) ∗ (idxLoc d ↦{fullShare} ci d) ∗ outLoc d ↦{fullShare} gathered (ct d) (ci d)) := by
  rw [show (bigSep Finset.univ fun c : Fin ((K (F := F)).nCore 0) => (P ct ci co).dn 0 d c)
      = bigSep Finset.univ fun c : Fin 2 => bigSep Finset.univ fun i : Fin 16 => tileOut ct ci d (c, i)
    from cores (F := F) fun c => bigSep Finset.univ fun i : Fin 16 => tileOut ct ci d (c, i),
    ← bigSep_univ_prod (fun x : Fin 2 × Fin 16 => tileOut ct ci d x), all_shares (F := F) (ct d), all_shares (F := F) (ci d), out_chunks]
  unfold tileOut
  rw [bigSep_sep', bigSep_sep']

end Cert.Proof.Gather

end
-- ==== Proof.Run.lean ====
/-
  The run of the program `kernel`, over any floating-point arithmetic: its host operations, its two pipelined calls
  and its SparseCore call in order, and what every buffer of the TensorCore holds at the end.
-/
module

public import proofs.«01_k».proof.Proof.Onehot
public import proofs.«01_k».proof.Proof.Finish
public import proofs.«01_k».proof.Proof.Tile

@[expose] public section

set_option maxRecDepth 16384

noncomputable section

namespace Cert.Proof.Run

open Cert.KernelIdeal Cert.KernelIdeal.Gen Cert.Proof.Setup Cert.Proof.Step Cert.Proof.Gather

open Idealize.ShloMosaic Idealize.ShloMosaic.TcCoe
open Idealize.ShloMosaic.SparseCore.Cfg (HIx Pay)
open Idealize.ShloMosaic.Pipeline (Dat BodyObligation)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The host operations, stretch by stretch -/

def ops0 : List (HloOp τ sig (Elt F)) := [
  StableHlo.unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
  StableHlo.reshape main_v0 main_v1 (rfl : (.f32 : EltTy) = .f32) shapeCasts_S8x32x32x256_S8192x256]
def ops1 : List (HloOp τ sig (Elt F)) := [
  StableHlo.reshape main_arg1 main_v3 (rfl : (.f32 : EltTy) = .f32) shapeCasts_S8192x256_S8192x2x128,
  StableHlo.reshape main_arg2 main_v4 (rfl : (.i32 : EltTy) = .i32) shapeCasts_S8192x1_S8192]
def ops2 : List (HloOp τ sig (Elt F)) := [
  StableHlo.reshape main_v5 main_v6 (rfl : (.f32 : EltTy) = .f32) shapeCasts_S8192x2x128_S8192x256]
def ops3 : List (HloOp τ sig (Elt F)) := [
  StableHlo.reshape main_v7_2 main_v8 (rfl : (.f32 : EltTy) = .f32) shapeCasts_S8192x256_S8x32x32x256,
  StableHlo.unary main_v8 main_v9 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
  StableHlo.reshape main_v7_0 main_v10 (rfl : (.f32 : EltTy) = .f32) shapeCasts_S1x1_S_,
  StableHlo.reshape main_v7_1 main_v11 (rfl : (.f32 : EltTy) = .f32) shapeCasts_S1x1_S_]

theorem main_eq (d : Dev nD) : main (F := F) d =
    seq ops0 >>= fun _ => Prog.lift (.customCall (SparseCore.inner (Pipeline.entry 0)) ()) >>= fun _ =>
    seq ops1 >>= fun _ => sc.run d 0 >>= fun _ => seq ops2 >>= fun _ =>
    Prog.lift (.customCall (SparseCore.inner (Pipeline.entry 1)) ()) >>= fun _ => seq ops3 >>= fun _ => pure ⟨⟩ := by
  simp only [ops0, ops1, ops2, ops3, seq, bind_assoc, pure_bind]
  rfl

/-! ## The buffers' contents, step by step -/

variable (m : (ℓ : Loc nD τ sig) → Buf (Elt F) ℓ) (d : Dev nD)

def W0 : Valuation τ sig (Elt F) := fun b => m (d, b)
def W1 : Valuation τ sig (Elt F) := after ops0 (W0 m d)
def W2 : Valuation τ sig (Elt F) :=
  Function.update (Function.update (W1 m d) (Proc.devRef .tc main_v2_0) (Onehot.hot (Onehot.xIdx (W1 m d))))
    (Proc.devRef .tc main_v2_1) (Onehot.csum (Onehot.xIdx (W1 m d)) 32)
def W3 : Valuation τ sig (Elt F) := after ops1 (W2 m d)
/-- The table, the list and the result array as the SparseCore call finds them. -/
def tab : Buf (Elt F) (tabLoc d) := W3 m d (Proc.devRef .tc main_v3)
def lst : Buf (Elt F) (idxLoc d) := W3 m d (Proc.devRef .tc main_v4)
def res : Buf (Elt F) (outLoc d) := W3 m d (Proc.devRef .tc main_v5)
def W4 : Valuation τ sig (Elt F) := Function.update (W3 m d) (Proc.devRef .tc main_v5) (gathered (tab m d) (lst m d))
def W5 : Valuation τ sig (Elt F) := after ops2 (W4 m d)
def W6 : Valuation τ sig (Elt F) :=
  Function.update (Function.update (Function.update (W5 m d)
    (Proc.devRef .tc main_v7_0) (k2_pay3 (Finish.xFlat (W5 m d)) (Finish.xRows (W5 m d))))
    (Proc.devRef .tc main_v7_1) (k2_pay5 (Finish.xCounts (W5 m d))))
    (Proc.devRef .tc main_v7_2) (k2_pay4 (Finish.xFlat (W5 m d)) (Finish.xRows (W5 m d)))
def W7 : Valuation τ sig (Elt F) := after ops3 (W6 m d)

/-! ## The two pipelined calls -/

def pdats : Dats F := fun p c => match p with
  | 0 => Onehot.dat (W1 m c) c
  | 1 => Finish.dat (W5 m c) c

theorem fits0 : Fits (pdats m) 0 0 where
  body c := (Onehot.body (W1 m c) c).loose
  owed c t := rfl
  recorded c t := rfl
  share c := Dat.share_full _ fun _ => rfl
  enter c := Onehot.enter (W1 m c) c
  leave c := Onehot.leave (W1 m c) c

theorem fits1 : Fits (pdats m) 1 1 where
  body c := (Finish.body (W5 m c) c).loose
  owed c t := rfl
  recorded c t := rfl
  share c := Dat.share_full _ fun _ => rfl
  enter c := .rfl
  leave c := .rfl

/-- A buffer other than the one just written. -/
theorem upd_ne (V : Valuation τ sig (Elt F)) {r b : Ref sig .tc} (v) (h : b ≠ r) :
    Function.update V (Proc.devRef .tc r) v (Proc.devRef .tc b) = V (Proc.devRef .tc b) :=
  Function.update_of_ne (StableHlo.devRef_ne_of_ne h) _ _

/-- The buffer just written. -/
theorem upd_self (V : Valuation τ sig (Elt F)) (r : Ref sig .tc) (v) :
    Function.update V (Proc.devRef .tc r) v (Proc.devRef .tc r) = v := Function.update_self _ _ _

theorem in0 (w : Fin cfg0.W) : (pdats m 0 d).A w = W1 m d (Proc.devRef .tc (Pipeline.arrRef spec0 w)) := Onehot.A_eq (W1 m d) d w
theorem in1 (w : Fin cfg2.W) : (pdats m 1 d).A w = W5 m d (Proc.devRef .tc (Pipeline.arrRef spec2 w)) := Finish.A_eq (W5 m d) d w

theorem out0 (w : Fin cfg0.W) : (pdats m 0 d).arrAt w cfg0.N = W2 m d (Proc.devRef .tc (Pipeline.arrRef spec0 w)) := by
  unfold W2
  match w with
  | 0 => exact ((pdats m 0 d).arrAt_in 0 rfl _).trans ((in0 m d 0).trans ((upd_ne (r := main_v2_1) (b := main_arg2) _ _ (by decide)).trans (upd_ne (r := main_v2_0) (b := main_arg2) _ _ (by decide))).symm)
  | 1 => exact (Onehot.final_1 (W1 m d) d).trans ((upd_ne (r := main_v2_1) (b := main_v2_0) _ _ (by decide)).trans (upd_self _ main_v2_0 _)).symm
  | 2 => exact (Onehot.final_2 (W1 m d) d).trans (upd_self _ main_v2_1 _).symm

theorem out1 (w : Fin cfg2.W) : (pdats m 1 d).arrAt w cfg2.N = W6 m d (Proc.devRef .tc (Pipeline.arrRef spec2 w)) := by
  unfold W6
  match w with
  | 0 => exact ((pdats m 1 d).arrAt_in 0 rfl _).trans ((in1 m d 0).trans ((upd_ne (r := main_v7_2) (b := main_v1) _ _ (by decide)).trans ((upd_ne (r := main_v7_1) (b := main_v1) _ _ (by decide)).trans (upd_ne (r := main_v7_0) (b := main_v1) _ _ (by decide)))).symm)
  | 1 => exact ((pdats m 1 d).arrAt_in 1 rfl _).trans ((in1 m d 1).trans ((upd_ne (r := main_v7_2) (b := main_v6) _ _ (by decide)).trans ((upd_ne (r := main_v7_1) (b := main_v6) _ _ (by decide)).trans (upd_ne (r := main_v7_0) (b := main_v6) _ _ (by decide)))).symm)
  | 2 => exact ((pdats m 1 d).arrAt_in 2 rfl _).trans ((in1 m d 2).trans ((upd_ne (r := main_v7_2) (b := main_v2_1) _ _ (by decide)).trans ((upd_ne (r := main_v7_1) (b := main_v2_1) _ _ (by decide)).trans (upd_ne (r := main_v7_0) (b := main_v2_1) _ _ (by decide)))).symm)
  | 3 => exact (Finish.final_3 (W5 m d) d).trans ((upd_ne (r := main_v7_2) (b := main_v7_0) _ _ (by decide)).trans ((upd_ne (r := main_v7_1) (b := main_v7_0) _ _ (by decide)).trans (upd_self _ main_v7_0 _))).symm
  | 4 => exact (Finish.final_4 (W5 m d) d).trans ((upd_ne (r := main_v7_2) (b := main_v7_1) _ _ (by decide)).trans (upd_self _ main_v7_1 _)).symm
  | 5 => exact (Finish.final_5 (W5 m d) d).trans (upd_self _ main_v7_2 _).symm

theorem rest0 (b : Ref sig .tc) (hb : b ∉ Finset.univ.image (Pipeline.arrRef spec0)) : W2 m d (Proc.devRef .tc b) = W1 m d (Proc.devRef .tc b) := by
  unfold W2
  have ne (w : Fin cfg0.W) : b ≠ Pipeline.arrRef spec0 w := fun e => hb (e ▸ Finset.mem_image_of_mem _ (Finset.mem_univ w))
  exact (upd_ne _ _ (ne 2)).trans (upd_ne _ _ (ne 1))

theorem rest1 (b : Ref sig .tc) (hb : b ∉ Finset.univ.image (Pipeline.arrRef spec2)) : W6 m d (Proc.devRef .tc b) = W5 m d (Proc.devRef .tc b) := by
  unfold W6
  have ne (w : Fin cfg2.W) : b ≠ Pipeline.arrRef spec2 w := fun e => hb (e ▸ Finset.mem_image_of_mem _ (Finset.mem_univ w))
  exact (upd_ne _ _ (ne 5)).trans ((upd_ne _ _ (ne 4)).trans (upd_ne _ _ (ne 3)))

/-! ## The SparseCore call's three arrays, out of the others and back -/

abbrev three : Finset (DevRef τ sig) := {Proc.devRef .tc main_v3, Proc.devRef .tc main_v4, Proc.devRef .tc main_v5}

theorem three_sub : three ⊆ Pipeline.ucRefs τ sig := by decide

theorem held_three (V : Valuation τ sig (Elt F)) : (held (d.tc : Thread nD τ) three V : sProp 𝕄)
    = iprop((tabLoc d ↦{fullShare} V (Proc.devRef .tc main_v3)) ∗ (idxLoc d ↦{fullShare} V (Proc.devRef .tc main_v4))
        ∗ outLoc d ↦{fullShare} V (Proc.devRef .tc main_v5)) := by
  unfold held
  rw [SparseCore.bigSep_insert' (by decide), SparseCore.bigSep_insert' (by decide), bigSep_singleton]

theorem three_in : (held (d.tc : Thread nD τ) three (W3 m d) : sProp 𝕄)
    ⊢ bigSep Finset.univ fun c : Fin ((K (F := F)).nCore 0) => (P (tab m) (lst m) (res m)).st 0 d c := by
  rw [st_eq, held_three]; exact .rfl

theorem three_out : (bigSep Finset.univ fun c : Fin ((K (F := F)).nCore 0) => (P (tab m) (lst m) (res m)).dn 0 d c)
    ⊢ (held (d.tc : Thread nD τ) three (W4 m d) : sProp 𝕄) := by
  rw [dn_eq, held_three]; unfold W4
  rw [upd_ne (b := main_v3) (r := main_v5) _ _ (by decide), upd_ne (b := main_v4) (r := main_v5) _ _ (by decide), upd_self]
  exact .rfl

theorem others_eq : (held (d.tc : Thread nD τ) (Pipeline.ucRefs τ sig \ three) (W4 m d) : sProp 𝕄)
    = held (d.tc : Thread nD τ) (Pipeline.ucRefs τ sig \ three) (W3 m d) :=
  StableHlo.held_congr _ fun b hb => by
    unfold W4
    exact Function.update_of_ne (fun e => (Finset.mem_sdiff.mp hb).2 (by rw [e]; decide)) _ _

/-! ## The launch element -/

/-- What a core's two pipelined calls are given. -/
abbrev GG : sProp 𝕄 :=
  bigSep Finset.univ fun p : Fin 2 => iprop(Pipeline.cellsGhost (Pipeline.pin (pcfgs (F := F)) adm) EP p d ∗ Pipeline.toksInit (Pipeline.pin (pcfgs (F := F)) adm) EP p d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem launch_el : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P (tab m) (lst m) (res m)).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UP × Counters)) $$ Hu
  icases H with ⟨HH, HR⟩
  ihave HR := (own_pair_emb embR
    (initOf (Pipeline.cells (Pipeline.pin (pcfgs (F := F)) adm) cellOf_inj) (Pipeline.launchToks (Pipeline.pin (pcfgs (F := F)) adm) cellOf_inj)) (1 : Counters)) $$ HR
  icases HR with ⟨HP, -⟩
  imod (Pipeline.fund_ghost (Pipeline.pin (pcfgs (F := F)) adm) EP cellOf_inj) $$ HP with ⟨Hg, Ht⟩
  imodintro
  isplitl [HH]; · iexact HH
  isplitl [Hg Ht]
  · simp only [GG, bigSep_sep']
    isplitl [Hg] <;> iassumption
  rw [show (bigSep Finset.univ fun thr : Thread nD τ => bigSep Finset.univ fun q : Fin 1 => (P (tab m) (lst m) (res m)).x q thr) = bigSep Finset.univ fun _ => (iprop(emp) : sProp 𝕄) from
    bigSep_congr fun _ _ => bigSep_univ_of_subsingleton (0 : Fin 1),
    show (bigSep Finset.univ fun _ : Thread nD τ => (iprop(emp) : sProp 𝕄)) = iprop(emp) from bigSep_emp_const _]
  iempintro

theorem GG_two : (GG (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold GG
  rw [show (Finset.univ : Finset (Fin 2)) = {0, 1} by decide, SparseCore.bigSep_insert' (by decide), bigSep_singleton]

/-! ## The TensorCore's program -/

theorem ops0_bufs : ∀ op ∈ ops0 (F := F), op.bufs ⊆ Pipeline.ucRefs τ sig := fun op h => Pipeline.sub_ucRefs op (by
  simp only [ops0, List.mem_cons, List.not_mem_nil, or_false] at h; rcases h with rfl | rfl; exacts [StableHlo.unary_bufs_sub .., StableHlo.reshape_bufs_sub ..])
theorem ops1_bufs : ∀ op ∈ ops1 (F := F), op.bufs ⊆ Pipeline.ucRefs τ sig := fun op h => Pipeline.sub_ucRefs op (by
  simp only [ops1, List.mem_cons, List.not_mem_nil, or_false] at h; rcases h with rfl | rfl; exacts [StableHlo.reshape_bufs_sub .., StableHlo.reshape_bufs_sub ..])
theorem ops2_bufs : ∀ op ∈ ops2 (F := F), op.bufs ⊆ Pipeline.ucRefs τ sig := fun op h => Pipeline.sub_ucRefs op (by
  simp only [ops2, List.mem_cons, List.not_mem_nil, or_false] at h; rcases h with rfl; exact StableHlo.reshape_bufs_sub ..)
theorem ops3_bufs : ∀ op ∈ ops3 (F := F), op.bufs ⊆ Pipeline.ucRefs τ sig := fun op h => Pipeline.sub_ucRefs op (by
  simp only [ops3, List.mem_cons, List.not_mem_nil, or_false] at h; rcases h with rfl | rfl | rfl | rfl; exacts [StableHlo.reshape_bufs_sub .., StableHlo.unary_bufs_sub .., StableHlo.reshape_bufs_sub .., StableHlo.reshape_bufs_sub ..])
theorem ops0_fresh : ∀ op ∈ ops0 (F := F), op.fresh = ∅ := List.forall_iff_forall_mem.mp (StableHlo.forall_fresh_of_map rfl)
theorem ops1_fresh : ∀ op ∈ ops1 (F := F), op.fresh = ∅ := List.forall_iff_forall_mem.mp (StableHlo.forall_fresh_of_map rfl)
theorem ops2_fresh : ∀ op ∈ ops2 (F := F), op.fresh = ∅ := List.forall_iff_forall_mem.mp (StableHlo.forall_fresh_of_map rfl)
theorem ops3_fresh : ∀ op ∈ ops3 (F := F), op.fresh = ∅ := List.forall_iff_forall_mem.mp (StableHlo.forall_fresh_of_map rfl)

/-- What is left at the end: every buffer at its last contents. -/
abbrev FIN : sProp 𝕄 := held (d.tc : Thread nD τ) (Pipeline.ucRefs τ sig) (W7 m d)

variable (ρ : Dev nD → PrngReg)

theorem main_wp [∀ e, Nonempty (Elt F e)] (κ : GSem nD τ sig → ℕ) :
    iprop((K (F := F)).ctx EH (P (tab m) (lst m) (res m)) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, GG_two, show (unscopedBufs d (fun b => m ((SparseCore.T d).loc b)) : sProp 𝕄) = held (d.tc : Thread nD τ) (Pipeline.ucRefs τ sig) (W0 m d) from
    Pipeline.unscopedBufs_held d (W0 m d)]
  iintro ⟨#Hctx, Hst, ⟨Hb, bufs, Hts, -⟩, ⟨G0, G1⟩⟩
  ihave #Hlev := ((K (F := F)).ctx_levAts (EH := EH) (P := P (tab m) (lst m) (res m)) κ) $$ Hctx
  iapply (StableHlo.wp_seq 𝒱 none Set.univ d (Pipeline.ucRefs τ sig) _ ops0 ops0_bufs ops0_fresh (W0 m d)) $$ [Hb bufs]
  · isplitl [Hb] <;> iassumption
  iintro ⟨Hb, bufs⟩
  dsimp only
  rw [wp_bind]
  iapply (region (fits0 m) launch0 d (W1 m d) (W2 m d) (in0 m d) (out0 m d) (rest0 m d))
  isplitr; · iexact Hlev
  isplitl [Hb]; · iexact Hb
  isplitl [Hst]; · iexact Hst
  isplitl [bufs]; · iexact bufs
  isplitl [G0]; · iexact G0
  iintro ⟨Hb, Hst, bufs⟩
  iapply (StableHlo.wp_seq 𝒱 none Set.univ d (Pipeline.ucRefs τ sig) _ ops1 ops1_bufs ops1_fresh (W2 m d)) $$ [Hb bufs]
  · isplitl [Hb] <;> iassumption
  iintro ⟨Hb, bufs⟩
  dsimp only
  rw [wp_bind]
  ihave bufs := (Entails.of_eq (show (held (d.tc : Thread nD τ) (Pipeline.ucRefs τ sig) (after ops1 (W2 m d)) : sProp 𝕄)
    = iprop(held (d.tc : Thread nD τ) three (W3 m d) ∗ held (d.tc : Thread nD τ) (Pipeline.ucRefs τ sig \ three) (W3 m d)) from
      StableHlo.held_sub_split _ three_sub _)) $$ bufs
  icases bufs with ⟨H3, Hrest⟩
  iapply ((K (F := F)).wp_run (D (F := F)) 𝒱 (EH := EH) (P := P (tab m) (lst m) (res m)) κ d 0)
  isplitr; · iexact Hctx
  isplitl [Hst]; · iexact Hst
  isplitl [H3]; · iapply (three_in m d); iexact H3
  iintro ⟨Hst, Hdn⟩
  ihave H3 := (three_out m d) $$ Hdn
  ihave Hrest := (Entails.of_eq (others_eq m d).symm) $$ Hrest
  ihave bufs := (Entails.of_eq (StableHlo.held_sub_split (d.tc : Thread nD τ) three_sub (W4 m d)).symm) $$ [H3 Hrest]
  · isplitl [H3] <;> iassumption
  iapply (StableHlo.wp_seq 𝒱 none Set.univ d (Pipeline.ucRefs τ sig) _ ops2 ops2_bufs ops2_fresh (W4 m d)) $$ [Hb bufs]
  · isplitl [Hb] <;> iassumption
  iintro ⟨Hb, bufs⟩
  dsimp only
  rw [wp_bind]
  iapply (region (fits1 m) launch2 d (W5 m d) (W6 m d) (in1 m d) (out1 m d) (rest1 m d))
  isplitr; · iexact Hlev
  isplitl [Hb]; · iexact Hb
  isplitl [Hst]; · iexact Hst
  isplitl [bufs]; · iexact bufs
  isplitl [G1]; · iexact G1
  iintro ⟨Hb, Hst, bufs⟩
  iapply (StableHlo.wp_seq 𝒱 none Set.univ d (Pipeline.ucRefs τ sig) _ ops3 ops3_bufs ops3_fresh (W6 m d)) $$ [Hb bufs]
  · isplitl [Hb] <;> iassumption
  iintro ⟨Hb, bufs⟩
  dsimp only
  rw [wp_pure]
  imodintro
  isplitl [Hst]; · iexact Hst
  isplitl [bufs]; · iexact bufs
  isplitl [Hb] <;> iassumption

def Ends (s' : Phys nD τ sig (Elt F)) : Prop := ∀ b ∈ Pipeline.ucRefs τ sig, s'.mem.mem (d, b) = W7 m d b

theorem read_end (s' : Phys nD τ sig (Elt F)) : iprop(FIN m d ∗ SI s') ⊢ (⌜Ends m d s'⌝ : sProp 𝕄) := by
  refine BIBase.Entails.trans (pointsTo_read_all (Pipeline.ucRefs τ sig) (fun b => (d, b)) (W7 m d) s') ?_
  iintro ⟨%h, -⟩
  ipureintro; exact h

/-- Every run ends, with every buffer at its last contents and every semaphore at zero. -/
theorem run [∀ e, Nonempty (Elt F e)] (hpre : PreOK (lst m)) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = W7 m d b) ∧ r.2.sem = fun _ => 0) :=
  SparseCore.Cfg.θ_run_sc_quiescent (K := K (F := F)) (D := D (F := F)) (𝒱 := 𝒱) (EH := EH) (P := P (tab m) (lst m) (res m)) (A := ∅) facts v₀
    (fun q hq => match q with | 0 => nomatch hq)
    (fun q _ => match q with | 0 => tileObl (tab m) (lst m) (res m) facts hpre)
    (fun q _ => match q with | 0 => SparseCore.Cfg.VecSplit.of_plain (vecSplit (tab m) (lst m) (res m)))
    m ρ main (fun d => GG (F := F) d) (FIN m) (u₀ (F := F)) (sep_elim_left.trans (launch_el m)) (fun κ d => main_wp m d ρ κ) (Ends m) (read_end m)
    (fun r => (∀ d : Dev nD, ∀ b ∈ Pipeline.ucRefs τ sig, r.2.mem (d, b) = W7 m d b) ∧ r.2.sem = fun _ => 0) (fun _ h hz => ⟨h, hz⟩)

end Cert.Proof.Run

end
-- ==== Proof.End.lean ====
/-
  The buffers of `kernel` at its end, read as functions of its arguments, and the frames of both printings.
-/
module

public import proofs.«01_k».proof.Proof.Run
public import proofs.«01_k».proof.Proof.Gen.Kernel
public import proofs.«01_k».proof.Proof.Gen.Pre_idx_in_rows
public import proofs.«01_k».proof.Proof.Gen.ReferenceIdeal.Run

@[expose] public section

set_option maxRecDepth 16384

noncomputable section

namespace Cert.Proof.End

open Cert.KernelIdeal Cert.KernelIdeal.Gen Cert.Proof.Setup Cert.Proof.Run Cert.Proof.Gather
open Idealize.ShloMosaic Idealize.ShloMosaic.TcCoe Idealize.SL.Sem
open Idealize.ShloMosaic.StableHlo

variable {F : FTy → Type} [FloatOps F]
variable (m : (ℓ : Loc nD τ sig) → Buf (Elt F) ℓ) (d : Dev nD)

/-- The arguments. -/
abbrev aLat : Vec F S8x256x32x32 .f32 := m ((d.tc : Thread nD τ).loc main_arg0)
abbrev aEmb : Vec F S8192x256 .f32 := m ((d.tc : Thread nD τ).loc main_arg1)
abbrev aIdx : Vec F S8192x1 .i32 := m ((d.tc : Thread nD τ).loc main_arg2)

/-- The latents as rows. -/
def flat (x : Vec F S8x256x32x32 .f32) : Vec F S8192x256 .f32 :=
  shapeCast S8192x256 (transpose S8x32x32x256 [0, 2, 3, 1] x transposes_S8x256x32x32_S8x32x32x256_0_2_3_1) shapeCasts_S8x32x32x256_S8192x256
/-- The codebook's rows at the indices. -/
def picked (e : Vec F S8192x256 .f32) (i : Vec F S8192x1 .i32) : Vec F S8192x256 .f32 :=
  shapeCast S8192x256 (gathered (F := F) (shapeCast S8192x2x128 e shapeCasts_S8192x256_S8192x2x128) (shapeCast S8192 i shapeCasts_S8192x1_S8192))
    shapeCasts_S8192x2x128_S8192x256

theorem W1_arg (r : Ref sig .tc) (h : r ∉ [main_v0, main_v1]) : W1 m d (Proc.devRef .tc r) = m (d, Proc.devRef .tc r) :=
  after_of_writes_sub ops0 (W0 m d) (forall_writes_sub_of_map rfl) h
theorem W2_of (r : Ref sig .tc) (h : r ∉ [main_v2_0, main_v2_1]) : W2 m d (Proc.devRef .tc r) = W1 m d (Proc.devRef .tc r) := by
  simp only [List.mem_cons, List.not_mem_nil, or_false, not_or] at h
  exact (upd_ne _ _ h.2).trans (upd_ne _ _ h.1)
theorem W3_of (r : Ref sig .tc) (h : r ∉ [main_v3, main_v4]) : W3 m d (Proc.devRef .tc r) = W2 m d (Proc.devRef .tc r) :=
  after_of_writes_sub ops1 (W2 m d) (forall_writes_sub_of_map rfl) h
theorem W4_of (r : Ref sig .tc) (h : r ≠ main_v5) : W4 m d (Proc.devRef .tc r) = W3 m d (Proc.devRef .tc r) := upd_ne _ _ h
theorem W5_of (r : Ref sig .tc) (h : r ∉ [main_v6]) : W5 m d (Proc.devRef .tc r) = W4 m d (Proc.devRef .tc r) :=
  after_of_writes_sub ops2 (W4 m d) (forall_writes_sub_of_map rfl) h
theorem W6_of (r : Ref sig .tc) (h : r ∉ [main_v7_0, main_v7_1, main_v7_2]) : W6 m d (Proc.devRef .tc r) = W5 m d (Proc.devRef .tc r) := by
  simp only [List.mem_cons, List.not_mem_nil, or_false, not_or] at h
  exact (upd_ne _ _ h.2.2).trans ((upd_ne _ _ h.2.1).trans (upd_ne _ _ h.1))
theorem W7_of (r : Ref sig .tc) (h : r ∉ [main_v8, main_v9, main_v10, main_v11]) : W7 m d (Proc.devRef .tc r) = W6 m d (Proc.devRef .tc r) :=
  after_of_writes_sub ops3 (W6 m d) (forall_writes_sub_of_map rfl) h

theorem W7_arg (r : Ref sig .tc) (h : r = main_arg0 ∨ r = main_arg1 ∨ r = main_arg2) : W7 m d (Proc.devRef .tc r) = m (d, Proc.devRef .tc r) := by
  rw [W7_of _ _ _ (by rcases h with rfl | rfl | rfl <;> decide), W6_of _ _ _ (by rcases h with rfl | rfl | rfl <;> decide),
    W5_of _ _ _ (by rcases h with rfl | rfl | rfl <;> decide), W4_of _ _ _ (by rcases h with rfl | rfl | rfl <;> decide),
    W3_of _ _ _ (by rcases h with rfl | rfl | rfl <;> decide), W2_of _ _ _ (by rcases h with rfl | rfl | rfl <;> decide),
    W1_arg _ _ _ (by rcases h with rfl | rfl | rfl <;> decide)]

theorem idx_eq : Onehot.xIdx (W1 m d) = aIdx m d := W1_arg m d main_arg2 (by decide)

theorem tab_eq : tab m d = shapeCast S8192x2x128 (aEmb m d) shapeCasts_S8192x256_S8192x2x128 := by
  unfold tab W3 ops1
  have h : W2 m d (Proc.devRef .tc main_arg1) = m (d, Proc.devRef .tc main_arg1) :=
    (W2_of m d main_arg1 (by decide)).trans (W1_arg m d main_arg1 (by decide))
  after_results
  rw [h]; rfl
theorem lst_eq : lst m d = shapeCast S8192 (aIdx m d) shapeCasts_S8192x1_S8192 := by
  unfold lst W3 ops1
  have h : W2 m d (Proc.devRef .tc main_arg2) = m (d, Proc.devRef .tc main_arg2) :=
    (W2_of m d main_arg2 (by decide)).trans (W1_arg m d main_arg2 (by decide))
  after_results
  rw [h]; rfl

theorem flat_eq : Finish.xFlat (W5 m d) = flat (aLat m d) := by
  refine (W5_of m d main_v1 (by decide)).trans ((W4_of m d main_v1 (by decide)).trans ((W3_of m d main_v1 (by decide)).trans ((W2_of m d main_v1 (by decide)).trans ?_)))
  unfold W1 ops0
  after_results
  rfl
theorem rows_eq : Finish.xRows (W5 m d) = picked (aEmb m d) (aIdx m d) := by
  have h : W4 m d (Proc.devRef .tc main_v5) = gathered (tab m d) (lst m d) := upd_self _ main_v5 _
  unfold Finish.xRows W5 ops2
  after_results
  rw [h, tab_eq, lst_eq]; rfl
theorem counts_eq : Finish.xCounts (W5 m d) = Onehot.csum (aIdx m d) 32 := by
  refine (W5_of m d main_v2_1 (by decide)).trans ((W4_of m d main_v2_1 (by decide)).trans ((W3_of m d main_v2_1 (by decide)).trans ?_))
  rw [← idx_eq]; exact upd_self _ main_v2_1 _

theorem end_loss : W7 m d (Proc.devRef .tc main_v10)
    = shapeCast S_ (k2_pay3 (flat (aLat m d)) (picked (aEmb m d) (aIdx m d))) shapeCasts_S1x1_S_ := by
  have h : W6 m d (Proc.devRef .tc main_v7_0) = k2_pay3 (flat (aLat m d)) (picked (aEmb m d) (aIdx m d)) := by
    rw [← flat_eq, ← rows_eq]
    exact (upd_ne (r := main_v7_2) (b := main_v7_0) _ _ (by decide)).trans ((upd_ne (r := main_v7_1) (b := main_v7_0) _ _ (by decide)).trans (upd_self _ main_v7_0 _))
  unfold W7 ops3
  after_results
  rw [h]; rfl
theorem end_ppx : W7 m d (Proc.devRef .tc main_v11) = shapeCast S_ (k2_pay5 (Onehot.csum (aIdx m d) 32)) shapeCasts_S1x1_S_ := by
  have h : W6 m d (Proc.devRef .tc main_v7_1) = k2_pay5 (Onehot.csum (aIdx m d) 32) := by
    rw [← counts_eq]
    exact (upd_ne (r := main_v7_2) (b := main_v7_1) _ _ (by decide)).trans (upd_self _ main_v7_1 _)
  unfold W7 ops3
  after_results
  rw [h]; rfl
theorem end_zq : W7 m d (Proc.devRef .tc main_v9)
    = transpose S8x256x32x32 [0, 3, 1, 2] (shapeCast S8x32x32x256 (k2_pay4 (flat (aLat m d)) (picked (aEmb m d) (aIdx m d))) shapeCasts_S8192x256_S8x32x32x256)
        transposes_S8x32x32x256_S8x256x32x32_0_3_1_2 := by
  have h : W6 m d (Proc.devRef .tc main_v7_2) = k2_pay4 (flat (aLat m d)) (picked (aEmb m d) (aIdx m d)) := by
    rw [← flat_eq, ← rows_eq]
    exact upd_self _ main_v7_2 _
  unfold W7 ops3
  after_results
  rw [h]; rfl
theorem end_hot : W7 m d (Proc.devRef .tc main_v2_0) = Onehot.hot (aIdx m d) := by
  refine (W7_of m d main_v2_0 (by decide)).trans ((W6_of m d main_v2_0 (by decide)).trans ((W5_of m d main_v2_0 (by decide)).trans ((W4_of m d main_v2_0 (by decide)).trans ((W3_of m d main_v2_0 (by decide)).trans ?_))))
  rw [← idx_eq]
  exact (upd_ne (r := main_v2_1) (b := main_v2_0) _ _ (by decide)).trans (upd_self _ main_v2_0 _)

end Cert.Proof.End

end
-- ==== Proof.Frames.lean ====
/-
  The frames of `kernel`, of its idealized form and of its reference.
-/
module

public import proofs.«01_k».proof.Proof.End
public import Idealize.ShloMosaic.Lib.Claim

@[expose] public section

set_option maxRecDepth 16384

noncomputable section

namespace Cert.Proof.Frames

open Cert.KernelIdeal Cert.KernelIdeal.Gen Cert.Proof.Setup Cert.Proof.Run Cert.Proof.Gather Cert.Proof.End
open Idealize.ShloMosaic Idealize.ShloMosaic.TcCoe Idealize.SL.Sem

/-- A signed word between 0 and 8191 is its own value, below 8192. -/
theorem word_lt (v : BitVec 32) (e : IntOp.andi (IntOp.cmpi .sge v 0#32) (IntOp.cmpi .slt v 8192#32) = 1#1) : v.toNat < 8192 := by
  by_cases h0 : (0#32).sle v = true <;> by_cases h1 : v.slt 8192#32 = true
  · simp only [BitVec.sle_eq_decide, BitVec.slt_eq_decide, decide_eq_true_eq, BitVec.toInt_eq_toNat_cond, BitVec.toNat_ofNat,
      Nat.reducePow, Nat.reduceMod] at h0 h1
    omega
  all_goals
    exfalso; revert e
    simp only [IntOp.cmpi, h0, h1]; decide

theorem words_lt {F : FTy → Type} [FloatOps F] {x0 : FVec F S8x256x32x32 .f32} {x1 : FVec F S8192x256 .f32} {x2 : IVec S8192x1 32}
    (h : Cert.Pre_idx_in_rows.fn (F := F) x0 x1 x2 = fun _ => 1#1) (j : S8192x1.Idx) : (x2 j).toNat < 8192 := by
  have e := congrFun h j
  simp only [Pre_idx_in_rows.fn, andi, cmpi, broadcastInDim, constantI] at e
  exact word_lt _ e

theorem inRows {F : FTy → Type} [FloatOps F] (m : (ℓ : Loc nD τ sig) → Buf (Elt F) ℓ)
    (h : ∀ d, Cert.Pre_idx_in_rows.fn (F := F) (aLat m d) (aEmb m d) (aIdx m d) = fun _ => 1#1) : PreOK (lst m) := by
  intro d j
  rw [lst_eq]
  exact words_lt (h d) _

theorem frame {F : FTy → Type} [FloatOps F] [∀ e, Nonempty (Elt F e)] (m : (ℓ : Loc nD τ sig) → Buf (Elt F) ℓ) (ρ : Dev nD → PrngReg)
    (h : ∀ d, Cert.Pre_idx_in_rows.fn (F := F) (aLat m d) (aEmb m d) (aIdx m d) = fun _ => 1#1) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run Cert.KernelIdeal.defs _ _).mono (fun _ hr => ⟨fun c =>
      ⟨(hr.1 c (Proc.devRef .tc main_arg0) (by decide)).trans (W7_arg m c main_arg0 (.inl rfl)),
        (hr.1 c (Proc.devRef .tc main_arg1) (by decide)).trans (W7_arg m c main_arg1 (.inr (.inl rfl))),
        (hr.1 c (Proc.devRef .tc main_arg2) (by decide)).trans (W7_arg m c main_arg2 (.inr (.inr rfl)))⟩, hr.2⟩)
    (run m ρ (inRows m h))

theorem frame_kernelIdeal : Cert.quiescent_KernelIdeal := fun m ρ h => frame (F := Ideal) m ρ h

/-- The printed program and its idealized form have the same bodies (no rewrite applies). -/
theorem defs₀_eq {F : FTy → Type} [FloatOps F] : Cert.Kernel.defs₀ (F := F) = Cert.KernelIdeal.defs₀ (F := F) := by
  funext p l a
  match p, l, a with
  | .tc, 0, (_, _) => rfl
  | .tc, 1, _ => rfl
  | .tc, 2, (_, _) => rfl
  | .scScalar _, 0, _ => rfl
  | .scScalar _, 1, _ => rfl
  | .scScalar _, 2, _ => rfl
  | .scVector _ _, 0, _ => rfl
  | .scVector _ _, 1, _ => rfl
  | .scVector _ _, 2, _ => rfl

theorem defs_eq {F : FTy → Type} [FloatOps F] : Cert.Kernel.defs (F := F) = Cert.KernelIdeal.defs (F := F) :=
  congrArg (fun d => Cert.KernelIdeal.sc.defs (Pipeline.defs Cert.KernelIdeal.pcfgs d)) defs₀_eq

theorem frame_kernel : Cert.quiescent_Kernel := fun m ρ h => by
  rw [defs_eq]
  exact frame (F := Bits) m ρ h

theorem frame_referenceIdeal : Cert.quiescent_ReferenceIdeal := fun m ρ h =>
  θ_run_mono (Cert.ReferenceIdeal.Value.run m ρ) fun _ hr =>
    ⟨fun c => ⟨(hr c).2.2.2.2.1, (hr c).2.2.2.2.2.1, (hr c).2.2.2.2.2.2⟩, sem_eq_zero_of_no_sems (by decide) _⟩

end Cert.Proof.Frames

end
-- ==== Proof.Hot.lean ====
/-
  The one-hot matrix: the scatter of ones that the reference writes is, at indices that name rows, the comparison of the
  column number with the index that the kernel computes.
-/
module

public import proofs.«01_k».proof.Proof.End
public import Idealize.ShloMosaic.Lib.Pointwise
public import Idealize.ShloMosaic.Lib.IdealHost
public import Idealize.ShloMosaic.Lib.Routing.OpsSet

@[expose] public section

set_option maxRecDepth 16384

noncomputable section

namespace Cert.Proof.Hot

open Cert.ReferenceIdeal Cert.ReferenceIdeal.Facts₀ Cert.ReferenceIdeal.Facts
open Idealize.ShloMosaic Idealize.SL.Sem

/-- The index words of the reference's scatter: row number and codebook index, each with `jnp`'s wrap of negatives. -/
def words (i : IVec S8192x1 32) : IVec S8192x2 32 :=
  concatenate S8192x2 1 [⟨S8192x1, (broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0)))⟩, ⟨S8192x1, (broadcastInDim S8192x1 ![0] bcast_S8192_S8192x1_0 (select (cmpi .slt (shapeCast _ i shapeCasts_S8192x1_S8192) (broadcastInDim S8192 ![] bcast_S_S8192 (constantI S_ 32 0#32))) (addi (shapeCast _ i shapeCasts_S8192x1_S8192) (broadcastInDim S8192 ![] bcast_S_S8192 (constantI S_ 32 8192#32))) (shapeCast _ i shapeCasts_S8192x1_S8192)))⟩] concatenates_S8192x1_S8192x1_S8192x2_d1

/-- The reference's one-hot matrix. -/
def ones (i : IVec S8192x1 32) : FVec Ideal S8192x8192 .f32 :=
  Host.scatter scatter_S8192x8192_S8192x2_S8192_n_01_01_1 (fun _ b => b) (broadcastInDim S8192x8192 ![] bcast_S_S8192x8192 (constant S_ .f32 0x00000000#32)) (words i) (broadcastInDim S8192 ![] bcast_S_S8192 (constant S_ .f32 0x3F800000#32))

theorem words_row (i : IVec S8192x1 32) (r : Fin 8192) : words i (ix2 r 0) = BitVec.ofNat 32 r.val := by
  pointwise [words]
  exact Routing.wrap_of_lt _ _ (by simp; omega)

theorem words_col (i : IVec S8192x1 32) (h : ∀ j, (i j).toNat < 8192) (r : Fin 8192) : words i (ix2 r 1) = i (ix2 r 0) := by
  pointwise [words]
  exact Routing.wrap_of_lt _ _ (by have := h (ix2 r 0); omega)

theorem lands (w : IVec S8192x2 32) (k : S8192.Idx) (r c : Fin 8192) :
    scatter_S8192x8192_S8192x2_S8192_n_01_01_1.resultIdx? k w = some (ix2 r c)
      ↔ (w (ix2 (k 0) 0)).toInt = r.val ∧ (w (ix2 (k 0) 1)).toInt = c.val := by
  have s0 : scatter_S8192x8192_S8192x2_S8192_n_01_01_1.start k w 0 = (w (ix2 (k 0) 0)).toInt := by
    unfold ScatterDims.start
    rw [dif_pos (by decide)]
    congr 2
    funext b
    match b with
    | 0 => rfl
    | 1 => rfl
  have s1 : scatter_S8192x8192_S8192x2_S8192_n_01_01_1.start k w 1 = (w (ix2 (k 0) 1)).toInt := by
    unfold ScatterDims.start
    rw [dif_pos (by decide)]
    congr 2
    funext b
    match b with
    | 0 => rfl
    | 1 => rfl
  have w0 : scatter_S8192x8192_S8192x2_S8192_n_01_01_1.window k 0 = 0 := rfl
  have w1 : scatter_S8192x8192_S8192x2_S8192_n_01_01_1.window k 1 = 0 := rfl
  rw [Routing.resultIdx?_eq_some]
  constructor
  · intro h
    have h0 := h 0
    have h1 := h 1
    rw [s0, w0] at h0
    rw [s1, w1] at h1
    exact ⟨by simpa using h0, by simpa using h1⟩
  · intro h a
    match a with
    | 0 => show scatter_S8192x8192_S8192x2_S8192_n_01_01_1.start k w 0 + _ = _; rw [s0]; simpa [w0] using h.1
    | 1 => show scatter_S8192x8192_S8192x2_S8192_n_01_01_1.start k w 1 + _ = _; rw [s1]; simpa [w1] using h.2

theorem toInt_small (v : BitVec 32) (h : v.toNat < 8192) : v.toInt = (v.toNat : Int) := by
  rw [BitVec.toInt_eq_toNat_cond, if_pos (by omega)]

/-- The reference's one-hot matrix at row `r` and column `c`. -/
theorem ones_at (i : IVec S8192x1 32) (h : ∀ j, (i j).toNat < 8192) (r c : Fin 8192) :
    ones i (ix2 r c) = if (i (ix2 r 0)).toNat = c.val then (1 : EReal) else 0 := by
  have row : ∀ k : Fin 8192, (words i (ix2 k 0)).toInt = (k.val : Int) := fun k => by
    have := k.isLt
    rw [words_row, toInt_small _ (by simp; omega)]
    simp; omega
  have col : ∀ k : Fin 8192, (words i (ix2 k 1)).toInt = ((i (ix2 k 0)).toNat : Int) := fun k => by
    rw [words_col i h, toInt_small _ (h _)]
  unfold ones
  by_cases e : (i (ix2 r 0)).toNat = c.val
  · rw [if_pos e]
    refine Routing.scatter_set_hit _ _ _ _ _ _ (fun k _ => ?_) (ix1 r) ((lands _ _ _ _).2 ⟨row r, (col r).trans ?_⟩)
    · pointwise []
    · exact_mod_cast e
  · rw [if_neg e, Routing.scatter_set_miss]
    · pointwise []
    · intro k hk
      obtain ⟨h0, h1⟩ := (lands _ _ _ _).1 hk
      have h0 := (row (k 0)).symm.trans h0
      have e0 : k 0 = r := Fin.ext (by exact_mod_cast h0)
      have h1 := (col (k 0)).symm.trans h1
      rw [e0] at h1
      exact e (by exact_mod_cast h1)

/-- The kernel's one-hot matrix at row `r` and column `c`. -/
theorem hot_at (i : IVec S8192x1 32) (r c : Fin 8192) :
    Onehot.hot (F := Ideal) i (ix2 r c) = if (i (ix2 r 0)).toNat = c.val then (1 : EReal) else 0 := by
  have e : Onehot.hot (F := Ideal) i (ix2 r c)
      = ((((IntOp.cmpi .eq (BitVec.ofNat 32 c.val) (i (ix2 r 0))).setWidth 32).toInt : ℝ) : EReal) := by
    unfold Onehot.hot
    show ((((IntOp.cmpi .eq (BitVec.ofNat 32 c.val) (i _)).setWidth 32).toInt : ℝ) : EReal) = _
    congr 6
    funext a
    match a with
    | 0 => rfl
    | 1 => rfl
  rw [e]
  have hc := c.isLt
  by_cases g : (i (ix2 r 0)).toNat = c.val
  · rw [if_pos g, show i (ix2 r 0) = BitVec.ofNat 32 c.val from BitVec.eq_of_toNat_eq (by simp [g]; omega)]
    simp [IntOp.cmpi]
  · rw [if_neg g]
    have : BitVec.ofNat 32 c.val ≠ i (ix2 r 0) := fun q => g (by rw [← q]; simp; omega)
    simp [IntOp.cmpi, beq_eq_false_iff_ne.2 this]

/-- The two are one matrix where every index names a row. -/
theorem ones_eq (i : IVec S8192x1 32) (h : ∀ j, (i j).toNat < 8192) : ones i = Onehot.hot (F := Ideal) i := by
  funext j
  have e : ∀ r c : Fin 8192, ones i (ix2 r c) = Onehot.hot (F := Ideal) i (ix2 r c) := fun r c => by
    rw [ones_at i h, hot_at]
  rw [eq_ix2 j]
  exact e (j 0) (j 1)

end Cert.Proof.Hot

end
-- ==== Proof.Values.lean ====
/-
  The values over the extended reals: what the kernel's calls leave is what the reference computes.
-/
module

public import proofs.«01_k».proof.Proof.Hot

@[expose] public section

set_option maxRecDepth 16384

noncomputable section

namespace Cert.Proof.Values

open Cert.ReferenceIdeal Cert.ReferenceIdeal.Facts₀ Cert.ReferenceIdeal.Facts
open Idealize.ShloMosaic Idealize.SL.Sem Cert.Proof.Hot Cert.Proof.End

/-! ## The reference's terms -/

def lat (x : FVec Ideal S8x256x32x32 .f32) : FVec Ideal S8x32x32x256 .f32 :=
  transpose S8x32x32x256 [0, 2, 3, 1] x transposes_S8x256x32x32_S8x32x32x256_0_2_3_1
/-- The one-hot matrix times the codebook. -/
def rowsOf (e : FVec Ideal S8192x256 .f32) (i : IVec S8192x1 32) : FVec Ideal S8192x256 .f32 :=
  Host.dotGeneral dot_S8192x8192_S8192x256_S8192x256_1_0_0_1_n_n none (ones i) e
def quant (e : FVec Ideal S8192x256 .f32) (i : IVec S8192x1 32) : FVec Ideal S8x32x32x256 .f32 :=
  shapeCast _ (rowsOf e i) shapeCasts_S8192x256_S8x32x32x256
/-- The mean of the squared differences. -/
def mse (x : FVec Ideal S8x256x32x32 .f32) (e : FVec Ideal S8192x256 .f32) (i : IVec S8192x1 32) : FVec Ideal S_ .f32 :=
  Host.divf (Host.reduceAdd (mulf (subf (quant e i) (lat x)) (subf (quant e i) (lat x))) (constant S_ .f32 0x00000000#32)
    reducesTo_S8x32x32x256_S_d0_1_2_3 h_S_) (constant S_ .f32 0x4A000000#32)
def loss (x : FVec Ideal S8x256x32x32 .f32) (e : FVec Ideal S8192x256 .f32) (i : IVec S8192x1 32) : FVec Ideal S_ .f32 :=
  addf (mse x e i) (mulf (constant S_ .f32 0x3E800000#32) (mse x e i))
def zq (x : FVec Ideal S8x256x32x32 .f32) (e : FVec Ideal S8192x256 .f32) (i : IVec S8192x1 32) : FVec Ideal S8x256x32x32 .f32 :=
  transpose S8x256x32x32 [0, 3, 1, 2] (addf (lat x) (subf (quant e i) (lat x))) transposes_S8x32x32x256_S8x256x32x32_0_3_1_2
/-- How often each code is used. -/
def use (i : IVec S8192x1 32) : FVec Ideal S8192 .f32 :=
  Host.divf (Host.reduceAdd (ones i) (constant S_ .f32 0x00000000#32) reducesTo_S8192x8192_S8192_d0 h_S_)
    (broadcastInDim S8192 ![] bcast_S_S8192 (constant S_ .f32 0x46000000#32))
def ppx (i : IVec S8192x1 32) : FVec Ideal S_ .f32 :=
  Host.exp (Host.negf (Host.reduceAdd (mulf (use i) (Host.log (addf (use i) (broadcastInDim S8192 ![] bcast_S_S8192
    (constant S_ .f32 0x2EDBE6FF#32))))) (constant S_ .f32 0x00000000#32) reducesTo_S8192_S_d0 h_S_))

/-! ## The rows -/

/-- The codebook row that index word `w` names. -/
def code (w : BitVec 32) : Fin 8192 := ⟨w.toNat % 8192, Nat.mod_lt _ (by decide)⟩

theorem picked_at (e : FVec Ideal S8192x256 .f32) (i : IVec S8192x1 32) (r : Fin 8192) (k : Fin 256) :
    picked (F := Ideal) e i (ix2 r k) = e (ix2 (code (i (ix2 r 0))) k) := by
  pointwise [picked, Gather.gathered]
  refine congrArg e (congrArg₂ ix2 rfl (Fin.ext ?_))
  show k.val / 128 * 128 + k.val % 128 = k.val
  omega

theorem rowsOf_at (e : FVec Ideal S8192x256 .f32) (i : IVec S8192x1 32) (h : ∀ j, (i j).toNat < 8192) (r : Fin 8192) (k : Fin 256) :
    rowsOf e i (ix2 r k) = e (ix2 (code (i (ix2 r 0))) k) := by
  have hr := h (ix2 r 0)
  have s : rowsOf e i (ix2 r k) = ∑ c : Fin 8192, ones i (ix2 r c) * e (ix2 c k) := by
    pointwise [rowsOf]
  rw [s, Finset.sum_eq_single (code (i (ix2 r 0)))]
  · rw [ones_at i h, if_pos (by simp [code]; omega), one_mul]
  · intro c _ hc
    rw [ones_at i h, if_neg (fun q => hc (Fin.ext (by simp [code]; omega))), zero_mul]
  · simp

theorem rowsOf_eq (e : FVec Ideal S8192x256 .f32) (i : IVec S8192x1 32) (h : ∀ j, (i j).toNat < 8192) :
    picked (F := Ideal) e i = rowsOf e i := by
  funext j
  rw [eq_ix2 j]
  exact (picked_at e i (j 0) (j 1)).trans (rowsOf_at e i h (j 0) (j 1)).symm

/-! ## Totals over reshaped arrays -/

theorem sum_shapeCast {s t : Shape} (v : s.Idx → EReal) (h : s.ShapeCasts t) : ∑ j, shapeCast t v h j = ∑ j, v j :=
  Equiv.sum_comp (Shape.reshapeEquiv h) v

theorem no_axis (b : Fin S_.rank) : S_.size b = 1 := b.elim0

/-- The squared differences of the rows and the codes. -/
def sq (f q : FVec Ideal S8192x256 .f32) : FVec Ideal S8192x256 .f32 := mulf (subf q f) (subf q f)

theorem quant_sub (x : FVec Ideal S8x256x32x32 .f32) (e : FVec Ideal S8192x256 .f32) (i : IVec S8192x1 32) :
    subf (quant e i) (lat x) = shapeCast S8x32x32x256 (subf (rowsOf e i) (flat (F := Ideal) x)) shapeCasts_S8192x256_S8x32x32x256 := by
  have e0 : lat x = shapeCast S8x32x32x256 (flat (F := Ideal) x) shapeCasts_S8192x256_S8x32x32x256 := by
    unfold flat
    rw [shapeCast_shapeCast]
    rfl
  rw [e0]
  rfl

theorem mse_at (x : FVec Ideal S8x256x32x32 .f32) (e : FVec Ideal S8192x256 .f32) (i : IVec S8192x1 32) (j : S_.Idx) :
    mse x e i j = Ideal.div (∑ k : S8192x256.Idx, sq (flat (F := Ideal) x) (rowsOf e i) k) (Ideal.ofBits .f32 0x4A000000#32) := by
  have e1 : mulf (subf (quant e i) (lat x)) (subf (quant e i) (lat x))
      = shapeCast S8x32x32x256 (sq (flat (F := Ideal) x) (rowsOf e i)) shapeCasts_S8192x256_S8x32x32x256 := by
    rw [quant_sub]
    rfl
  unfold mse
  rw [ValueIdx.hostDivf_apply, ValueIdx.hostReduceAdd_apply, Ideal.hostReduceAdd_total _ no_axis, e1, sum_shapeCast]
  refine congrArg₂ Ideal.div ?_ rfl
  show Ideal.ofBits .f32 0#32 + _ = _
  simp

theorem loss_eq (x : FVec Ideal S8x256x32x32 .f32) (e : FVec Ideal S8192x256 .f32) (i : IVec S8192x1 32) :
    shapeCast S_ (Cert.KernelIdeal.Gen.k2_pay3 (F := Ideal) (flat (F := Ideal) x) (rowsOf e i)) Cert.KernelIdeal.Facts₀.shapeCasts_S1x1_S_ = loss x e i := by
  have e1 : Cert.KernelIdeal.Gen.k2_pay3 (F := Ideal) (flat (F := Ideal) x) (rowsOf e i) = fun _ =>
      Ideal.div (∑ k : S8192x256.Idx, sq (flat (F := Ideal) x) (rowsOf e i) k) (Ideal.ofBits .f32 0x4A000000#32)
       + Ideal.ofBits .f32 0x3E800000#32 * Ideal.div (∑ k : S8192x256.Idx, sq (flat (F := Ideal) x) (rowsOf e i) k) (Ideal.ofBits .f32 0x4A000000#32) := by
    funext j
    unfold Cert.KernelIdeal.Gen.k2_pay3 Cert.KernelIdeal.Gen.k2_pay2 Cert.KernelIdeal.Gen.k2_pay1
    simp only [shapeCast_self]
    exact congrArg (fun a : EReal => Ideal.div a (Ideal.ofBits .f32 0x4A000000#32) + Ideal.ofBits .f32 0x3E800000#32 * Ideal.div a (Ideal.ofBits .f32 0x4A000000#32))
      ((Ideal.multiReduction_add_total _ 0#32 _ (by decide) (.inl rfl) rfl _).trans
        (sum_shapeCast (sq (flat (F := Ideal) x) (rowsOf e i)) Cert.KernelIdeal.Gen.shapeCasts_S8192x256_S1x8192x256))
  rw [e1]
  funext j
  show _ = mse x e i j + Ideal.ofBits .f32 0x3E800000#32 * mse x e i j
  rw [mse_at]
  rfl

theorem zq_eq (x : FVec Ideal S8x256x32x32 .f32) (e : FVec Ideal S8192x256 .f32) (i : IVec S8192x1 32) :
    transpose S8x256x32x32 [0, 3, 1, 2] (shapeCast S8x32x32x256 (Cert.KernelIdeal.Gen.k2_pay4 (F := Ideal) (flat (F := Ideal) x) (rowsOf e i))
      Cert.KernelIdeal.Facts₀.shapeCasts_S8192x256_S8x32x32x256) Cert.KernelIdeal.Facts₀.transposes_S8x32x32x256_S8x256x32x32_0_3_1_2 = zq x e i := by
  have e0 : lat x = shapeCast S8x32x32x256 (flat (F := Ideal) x) shapeCasts_S8192x256_S8x32x32x256 := by
    unfold flat
    rw [shapeCast_shapeCast]
    rfl
  unfold zq Cert.KernelIdeal.Gen.k2_pay4 Cert.KernelIdeal.Gen.k2_pay2 Cert.KernelIdeal.Gen.k2_pay1
  simp only [shapeCast_self]
  rw [quant_sub, e0]
  rfl

/-! ## The perplexity -/

/-- Entry `k`, `c` of the kernel's one-hot matrix, rows counted on. -/
def cell (i : IVec S8192x1 32) (c : Fin 8192) (k : ℕ) : EReal :=
  Onehot.hot (F := Ideal) i (ix2 (⟨k % 8192, Nat.mod_lt _ (by decide)⟩ : Fin 8192) c)

theorem pay4_at (X : FVec Ideal Cert.KernelIdeal.S1x8192 .f32) (i : IVec S8192x1 32) (n : ℕ) (c : Fin 8192) :
    Cert.KernelIdeal.Gen.k0_pay4 (F := Ideal) (Onehot.iotaRow (F := Ideal)) (Onehot.rows (F := Ideal) i n) X (ix2 0 c)
      = X (ix2 0 c) + ∑ k : Fin 256, cell i c (n * 256 + k.val) := by
  have e : ∀ k : Fin 256, Cert.KernelIdeal.Gen.k0_pay2 (F := Ideal) (Onehot.iotaRow (F := Ideal)) (Onehot.rows (F := Ideal) i n) (ix2 k c)
      = cell i c (n * 256 + k.val) := fun k => by
    rw [Onehot.pay2_eq]
    unfold cell
    congr 1
    funext a
    match a with
    | 0 => rfl
    | 1 => rfl
  simp only [← e]
  unfold Cert.KernelIdeal.Gen.k0_pay4
  generalize Cert.KernelIdeal.Gen.k0_pay2 (F := Ideal) (Onehot.iotaRow (F := Ideal)) (Onehot.rows (F := Ideal) i n) = Y
  pointwise []

theorem csum_at (i : IVec S8192x1 32) (c : Fin 8192) (n : ℕ) :
    Onehot.csum (F := Ideal) i n (ix2 0 c) = ∑ k ∈ Finset.range (n * 256), cell i c k := by
  induction n with
  | zero =>
    show Cert.KernelIdeal.Gen.k0_pay3 (F := Ideal) (ix2 0 c) = _
    pointwise [Cert.KernelIdeal.Gen.k0_pay3]
    simp
  | succ n ih =>
    show Cert.KernelIdeal.Gen.k0_pay4 (F := Ideal) _ _ (Onehot.csum (F := Ideal) i n) (ix2 0 c) = _
    rw [pay4_at, ih, Nat.succ_mul, Finset.sum_range_add, Finset.sum_range (fun k => cell i c (n * 256 + k))]

theorem count_at (i : IVec S8192x1 32) (h : ∀ j, (i j).toNat < 8192) (c : Fin 8192) :
    Onehot.csum (F := Ideal) i 32 (ix2 0 c) = ∑ k : Fin 8192, ones i (ix2 k c) := by
  rw [csum_at, ones_eq i h, show 32 * 256 = 8192 from rfl, Finset.sum_range]
  refine Finset.sum_congr rfl fun k _ => ?_
  unfold cell
  congr 2
  exact Fin.ext (Nat.mod_eq_of_lt k.isLt)

theorem scale : ∀ x : EReal, x * Ideal.ofBits .f32 0x39000000#32 = Ideal.div x (Ideal.ofBits .f32 0x46000000#32) := by
  have e1 : Ideal.ofBits .f32 0x39000000#32 = (((1 : ℝ) / 8192 : ℝ) : EReal) := by
    simp [Ideal.ofBits, Ideal.ieee]; rw [← EReal.coe_mul]; norm_num
  have e2 : Ideal.ofBits .f32 0x46000000#32 = ((8192 : ℝ) : EReal) := by
    simp [Ideal.ofBits, Ideal.ieee]; rw [← EReal.coe_mul]; norm_num
  intro x
  rw [e1, e2]
  unfold Ideal.div
  rw [if_neg (by norm_num), ← EReal.coe_inv]
  norm_num

theorem use_at (i : IVec S8192x1 32) (h : ∀ j, (i j).toNat < 8192) (c : Fin 8192) :
    use i (ix1 c) = Onehot.csum (F := Ideal) i 32 (ix2 0 c) * Ideal.ofBits .f32 0x39000000#32 := by
  rw [scale, count_at i h]
  pointwise [use]
  done

theorem entropy (C : FVec Ideal Cert.KernelIdeal.S1x8192 .f32) (U : FVec Ideal S8192 .f32)
    (h : ∀ c : Fin 8192, U (ix1 c) = C (ix2 0 c) * Ideal.ofBits .f32 0x39000000#32) (j : S_.Idx) :
    shapeCast S_ (Cert.KernelIdeal.Gen.k2_pay5 (F := Ideal) C) Cert.KernelIdeal.Facts₀.shapeCasts_S1x1_S_ j
      = Host.exp (Host.negf (Host.reduceAdd (mulf U (Host.log (addf U (broadcastInDim S8192 ![] bcast_S_S8192
    (constant S_ .f32 0x2EDBE6FF#32))))) (constant S_ .f32 0x00000000#32) reducesTo_S8192_S_d0 h_S_)) j := by
  pointwise [Cert.KernelIdeal.Gen.k2_pay5]
  simp only [h, zero_sub, Finset.univ_unique, Finset.sum_singleton]
  rfl

theorem ppx_eq (i : IVec S8192x1 32) (h : ∀ j, (i j).toNat < 8192) :
    shapeCast S_ (Cert.KernelIdeal.Gen.k2_pay5 (F := Ideal) (Onehot.csum (F := Ideal) i 32)) Cert.KernelIdeal.Facts₀.shapeCasts_S1x1_S_ = ppx i :=
  funext fun j => entropy _ _ (use_at i h) j

end Cert.Proof.Values

end
-- ==== Proof.Algebraic.lean ====
/-
  The kernel from the indices on, against its reference: the four results.
-/
module

public import proofs.«01_k».proof.Proof.Frames
public import proofs.«01_k».proof.Proof.Values

@[expose] public section

set_option maxRecDepth 16384

noncomputable section

namespace Cert.Proof.Algebraic

open Idealize.ShloMosaic Idealize.ShloMosaic.TcCoe Idealize.SL.Sem Cert.Proof.Run Cert.Proof.End Cert.Proof.Frames

section Reference

open Cert.ReferenceIdeal Cert.ReferenceIdeal.Value

variable (m : (ℓ : Loc nD τ sig) → Buf (Elt Ideal) ℓ) (c : Dev nD)

abbrev rLat : FVec Ideal S8x256x32x32 .f32 := m ((c.tc : Thread nD τ).loc main_arg0)
abbrev rEmb : FVec Ideal S8192x256 .f32 := m ((c.tc : Thread nD τ).loc main_arg1)
abbrev rIdx : IVec S8192x1 32 := m ((c.tc : Thread nD τ).loc main_arg2)

/-- What the reference ends holding. -/
theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = Values.loss (rLat m c) (rEmb m c) (rIdx m c)
      ∧ r.2.mem ((c.tc : Thread nD τ).loc main_v44) = Values.zq (rLat m c) (rEmb m c) (rIdx m c)
      ∧ r.2.mem ((c.tc : Thread nD τ).loc main_v43) = Values.ppx (rIdx m c)
      ∧ r.2.mem ((c.tc : Thread nD τ).loc main_v19) = Hot.ones (rIdx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by unfold res_main_v31; rfl), (h c).2.1.trans rfl, (h c).2.2.1.trans rfl,
    (h c).2.2.2.1.trans rfl, (h c).2.2.2.2⟩) (Cert.ReferenceIdeal.Value.run (F := Ideal) m ρ)

end Reference

open Cert.KernelIdeal

/-- The indices name rows, index by index. -/
theorem small (m : (ℓ : Loc nD τ sig) → Buf (Elt Ideal) ℓ) (h : Cert.Pre_KernelIdeal m) (c : Dev nD) (j : S8192x1.Idx) :
    (aIdx (F := Ideal) m c j).toNat < 8192 := words_lt (F := Ideal) (h c) j

theorem kernel_run (m : (ℓ : Loc nD τ sig) → Buf (Elt Ideal) ℓ) (ρ : Dev nD → PrngReg) (h : Cert.Pre_KernelIdeal m) :
    θ_run (defs (F := Ideal)) (threads (F := Ideal)) ⟨m, fun _ => 0, ρ⟩ fun r => ∀ c : Dev nD,
      r.2.mem ((c.tc : Thread nD τ).loc main_v10) = Values.loss (aLat m c) (aEmb m c) (aIdx m c)
      ∧ r.2.mem ((c.tc : Thread nD τ).loc main_v9) = Values.zq (aLat m c) (aEmb m c) (aIdx m c)
      ∧ r.2.mem ((c.tc : Thread nD τ).loc main_v11) = Values.ppx (aIdx m c)
      ∧ r.2.mem ((c.tc : Thread nD τ).loc main_v2_0) = Hot.ones (aIdx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hr c =>
      ⟨(hr.1 c (Proc.devRef .tc main_v10) (by decide)).trans ((end_loss m c).trans (by
          rw [Values.rowsOf_eq _ _ (small m h c)]; exact Values.loss_eq _ _ _)),
        (hr.1 c (Proc.devRef .tc main_v9) (by decide)).trans ((end_zq m c).trans (by
          rw [Values.rowsOf_eq _ _ (small m h c)]; exact Values.zq_eq _ _ _)),
        (hr.1 c (Proc.devRef .tc main_v11) (by decide)).trans ((end_ppx m c).trans (Values.ppx_eq _ (small m h c))),
        (hr.1 c (Proc.devRef .tc main_v2_0) (by decide)).trans ((end_hot m c).trans (Hot.ones_eq _ (small m h c)).symm),
        (hr.1 c (Proc.devRef .tc main_arg0) (by decide)).trans (W7_arg m c main_arg0 (.inl rfl)),
        (hr.1 c (Proc.devRef .tc main_arg1) (by decide)).trans (W7_arg m c main_arg1 (.inr (.inl rfl))),
        (hr.1 c (Proc.devRef .tc main_arg2) (by decide)).trans (W7_arg m c main_arg2 (.inr (.inr rfl)))⟩)
    (run (F := Ideal) m ρ (inRows m h))

theorem algebraic : Cert.algebraic_KernelIdeal_ReferenceIdeal := by
  intro m ρ m' ρ' hpre hagree
  refine ⟨_, _, _, _, kernel_run m ρ hpre, (θ_run Cert.ReferenceIdeal.defs _ _).mono (fun r h c => ?_) (reference_run m' ρ')⟩
  have e0 : rLat m' c = aLat (F := Ideal) m c := (hagree c).1
  have e1 : rEmb m' c = aEmb (F := Ideal) m c := (hagree c).2.1
  have e2 : rIdx m' c = aIdx (F := Ideal) m c := (hagree c).2.2
  have hc := h c
  rw [e0, e1, e2] at hc
  exact hc

end Cert.Proof.Algebraic

end
-- ==== Proof.Tiles.lean ====
/-
  The body of the first pipelined call of `nearest`: at grid point `k` it computes the distances of all 8192 latent
  vectors to the 1024 code vectors of tile `k`, and writes into columns `k` and `8 + k` of a table, for every latent vector,
  the least distance and the first code that attains it. At point 0 it first writes the squared norms of the latent
  vectors into column 16, which the other points read, and a row of numbers 0, 1, … into a scratch buffer.
-/
module

public import proofs.«01_k».proof.Proof.Gen.NearestIdeal.Launch
public import proofs.«01_k».proof.Proof.Gen.NearestIdeal.Skeleton
public import proofs.«01_k».proof.Proof.Gen.NearestIdeal.Points
public import proofs.«01_k».proof.Proof.Gen.NearestIdeal.Regions
public import Idealize.ShloMosaic.Lib.Pipeline.FrameBody
public import Idealize.ShloMosaic.Lib.VecWindow
public import Idealize.ShloMosaic.Lib.Ring

@[expose] public section

set_option maxRecDepth 16384

noncomputable section

namespace Cert.Proof.Tiles

open Cert.NearestIdeal Cert.NearestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Column `k` of the table. -/
def col (X : Vec F S8192x17 .f32) (k : ℕ) (h : ∀ a, (![0, k] : Fin 2 → ℕ) a + S8192x1.size a ≤ S8192x17.size a) : Vec F S8192x1 .f32 :=
  VecWindow.window (s := S8192x17) X ![0, k] S8192x1.size h

/-- The table with a vector put in column `k`. -/
def putCol (X : Vec F S8192x17 .f32) (k : ℕ) (v : Vec F S8192x1 .f32) : Vec F S8192x17 .f32 :=
  VecWindow.put (s := S8192x17) X ![0, k] S8192x1.size v

/-- The least distances to a tile, and the first codes that attain them. -/
abbrev low (x0 : Vec F S8192x256 .f32) (x1 : Vec F S1024x256 .f32) (n : Vec F S8192x1 .f32) : Vec F S8192x1 .f32 := k0_pay4 x1 x0 n
abbrev arg (i : grid0.Coords) (x0 : Vec F S8192x256 .f32) (x1 : Vec F S1024x256 .f32) (n : Vec F S8192x1 .f32) (u : Vec F S1x1024 .f32) : Vec F S8192x1 .f32 :=
  k0_pay5 i x1 x0 n u

section Body

variable (c : Dev nD) (E : Set ℕ) (i : grid0.Coords) (arg1 : Memref sig .tc .vmem S8192x256 .f32) (harg1 : arg1.IsWhole)
  (arg2 : Memref sig .tc .vmem S1024x256 .f32) (harg2 : arg2.IsWhole) (arg3 : Memref sig .tc .vmem S8192x17 .f32) (harg3 : arg3.IsWhole)
  (arg4 : Memref sig .tc .vmem S1x1024 .f32) (harg4 : arg4.IsWhole)
  (x0 : Vec F S8192x256 .f32) (x1 : Vec F S1024x256 .f32) (X : Vec F S8192x17 .f32) (u : Vec F S1x1024 .f32)

theorem load_col (f : arg3.view.ty.Contents (Elt F)) (k : ℕ) (h) :
    arg3.view.readAt (Elt F) (Rect.unit (s := S8192x17) ![0, k] S8192x1.size h).toLoadRect f = col (arg3.view.read (Elt F) f) k h :=
  View.readAt_unit _ _ _ rfl _

theorem col_putCol (k : ℕ) (h) (v : Vec F S8192x1 .f32) : col (putCol X k v) k h = v := VecWindow.window_put_same _ _ _ _ _

theorem stored_col (f : arg3.view.ty.Contents (Elt F)) (k : ℕ) (h) (v : Vec F S8192x1 .f32) (L : List (View.Piece (Elt F) S8192x17 .f32)) :
    arg3.view.read (Elt F) (arg3.view.writes (Elt F) f (⟨Rect.unit (s := S8192x17) ![0, k] S8192x1.size h, v⟩ :: L))
      = putCol (arg3.view.read (Elt F) (arg3.view.writes (Elt F) f L)) k v :=
  View.read_writes_cons_put _ _ _ _ _ rfl

set_option maxHeartbeats 1000000 in
/-- Point 0. -/
theorem run_0 (hi : (i 0).val = 0) (Q : PUnit → sProp 𝕄) :
    iprop(owns (c : Thread nD τ) arg1 fullShare x0 ∗ owns (c : Thread nD τ) arg2 fullShare x1 ∗ owns (c : Thread nD τ) arg3 fullShare X
        ∗ (∃ d, owns (c : Thread nD τ) arg4 fullShare d)
        ∗ (iprop(owns (c : Thread nD τ) arg1 fullShare x0 ∗ owns (c : Thread nD τ) arg2 fullShare x1
            ∗ owns (c : Thread nD τ) arg3 fullShare (putCol (putCol (putCol X 16 (k0_pay1 x0)) 0 (low x0 x1 (k0_pay1 x0))) 8 (arg i x0 x1 (k0_pay1 x0) (k0_pay2 (F := F))))
            ∗ owns (c : Thread nD τ) arg4 fullShare (k0_pay2 (F := F))) -∗ Q ⟨⟩))
      ⊢ wp frame (wpE (defs₀ (F := F)) Variants.none c none) E (cc0__argmin_kernel i arg1 harg1 arg2 harg2 arg3 harg3 arg4 harg4) Q := by
  have hc1 : (k0_cond1 i = 1#1) := by simp only [k0_cond1, hi]; decide
  have hc2 : (k0_cond2 i = 1#1) := by simp only [k0_cond2, hi]; decide
  have hc3 : ¬(k0_cond3 i = 1#1) := by simp only [k0_cond3, hi]; decide
  have hc4 : ¬(k0_cond4 i = 1#1) := by simp only [k0_cond4, hi]; decide
  have hc5 : ¬(k0_cond5 i = 1#1) := by simp only [k0_cond5, hi]; decide
  have hc6 : ¬(k0_cond6 i = 1#1) := by simp only [k0_cond6, hi]; decide
  have hc7 : ¬(k0_cond7 i = 1#1) := by simp only [k0_cond7, hi]; decide
  have hc8 : ¬(k0_cond8 i = 1#1) := by simp only [k0_cond8, hi]; decide
  have hc9 : ¬(k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%d4, %f4, -, H4⟩, Hk⟩
  subst hf1 hf2 hf3
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 8 _ _ _).trans ?_
    have e14 : run_0.sl.v14 c arg1 arg3 f1 = k0_pay1 (arg1.view.read (Elt F) f1) := by
      unfold run_0.sl.v14
      refine (load_col arg3 _ 16 _).trans ?_
      unfold run_0.sl.H3_1
      rw [stored_col, View.readAt_full]
      exact col_putCol _ 16 _ _
    have e26 : run_0.sl.v26 c arg4 = k0_pay2 (F := F) := View.readCov_full _ _ _ _ _
    refine congrArg₂ (fun a b => putCol a 8 b) ?_ ?_
    · refine (stored_col arg3 f3 0 _ _ _).trans ?_
      refine congrArg₂ (fun a b => putCol a 0 b) ?_ ?_
      · unfold run_0.sl.H3_1
        rw [View.readAt_full]
        exact stored_col arg3 f3 16 _ _ []
      · rw [e14, View.readAt_full, View.readAt_full]
    · rw [e14, e26, View.readAt_full, View.readAt_full]
  iexists _; isplitr
  swap; · iexact H4
  ipureintro
  exact View.read_writes_full _ _ _ _ _

set_option maxHeartbeats 1000000 in
/-- Point 1. -/
theorem run_1 (hi : (i 0).val = 1) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X 1 (low x0 x1 (col X 16 inb_S8192x17_S8192x1_0_16))) 9 (arg i x0 x1 (col X 16 inb_S8192x17_S8192x1_0_16) u))
            ∗ owns (c : Thread nD τ) arg4 fullShare u) -∗ Q ⟨⟩))
      ⊢ wp frame (wpE (defs₀ (F := F)) Variants.none c none) E (cc0__argmin_kernel i arg1 harg1 arg2 harg2 arg3 harg3 arg4 harg4) Q := by
  have hc1 : ¬(k0_cond1 i = 1#1) := by simp only [k0_cond1, hi]; decide
  have hc2 : ¬(k0_cond2 i = 1#1) := by simp only [k0_cond2, hi]; decide
  have hc3 : (k0_cond3 i = 1#1) := by simp only [k0_cond3, hi]; decide
  have hc4 : ¬(k0_cond4 i = 1#1) := by simp only [k0_cond4, hi]; decide
  have hc5 : ¬(k0_cond5 i = 1#1) := by simp only [k0_cond5, hi]; decide
  have hc6 : ¬(k0_cond6 i = 1#1) := by simp only [k0_cond6, hi]; decide
  have hc7 : ¬(k0_cond7 i = 1#1) := by simp only [k0_cond7, hi]; decide
  have hc8 : ¬(k0_cond8 i = 1#1) := by simp only [k0_cond8, hi]; decide
  have hc9 : ¬(k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  subst hf1 hf2 hf3 hf4
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 9 _ _ _).trans ?_
    refine congrArg₂ (fun a b => putCol a 9 b) ?_ ?_
    · refine (stored_col arg3 f3 1 _ _ _).trans ?_
      refine congrArg₂ (fun a b => putCol a 1 b) rfl ?_
      unfold run_1.sl.r
      rw [View.readAt_full, View.readAt_full, load_col]
    · unfold run_1.sl.r_1
      rw [View.readAt_full, View.readAt_full, View.readAt_full, load_col]
  iexists _; isplitr; · ipureintro; rfl
  iexact H4

set_option maxHeartbeats 1000000 in
/-- Point 2. -/
theorem run_2 (hi : (i 0).val = 2) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X 2 (low x0 x1 (col X 16 inb_S8192x17_S8192x1_0_16))) 10 (arg i x0 x1 (col X 16 inb_S8192x17_S8192x1_0_16) u))
            ∗ owns (c : Thread nD τ) arg4 fullShare u) -∗ Q ⟨⟩))
      ⊢ wp frame (wpE (defs₀ (F := F)) Variants.none c none) E (cc0__argmin_kernel i arg1 harg1 arg2 harg2 arg3 harg3 arg4 harg4) Q := by
  have hc1 : ¬(k0_cond1 i = 1#1) := by simp only [k0_cond1, hi]; decide
  have hc2 : ¬(k0_cond2 i = 1#1) := by simp only [k0_cond2, hi]; decide
  have hc3 : ¬(k0_cond3 i = 1#1) := by simp only [k0_cond3, hi]; decide
  have hc4 : (k0_cond4 i = 1#1) := by simp only [k0_cond4, hi]; decide
  have hc5 : ¬(k0_cond5 i = 1#1) := by simp only [k0_cond5, hi]; decide
  have hc6 : ¬(k0_cond6 i = 1#1) := by simp only [k0_cond6, hi]; decide
  have hc7 : ¬(k0_cond7 i = 1#1) := by simp only [k0_cond7, hi]; decide
  have hc8 : ¬(k0_cond8 i = 1#1) := by simp only [k0_cond8, hi]; decide
  have hc9 : ¬(k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  subst hf1 hf2 hf3 hf4
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 10 _ _ _).trans ?_
    refine congrArg₂ (fun a b => putCol a 10 b) ?_ ?_
    · refine (stored_col arg3 f3 2 _ _ _).trans ?_
      refine congrArg₂ (fun a b => putCol a 2 b) rfl ?_
      unfold run_2.sl.r
      rw [View.readAt_full, View.readAt_full, load_col]
    · unfold run_2.sl.r_1
      rw [View.readAt_full, View.readAt_full, View.readAt_full, load_col]
  iexists _; isplitr; · ipureintro; rfl
  iexact H4

set_option maxHeartbeats 1000000 in
/-- Point 3. -/
theorem run_3 (hi : (i 0).val = 3) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X 3 (low x0 x1 (col X 16 inb_S8192x17_S8192x1_0_16))) 11 (arg i x0 x1 (col X 16 inb_S8192x17_S8192x1_0_16) u))
            ∗ owns (c : Thread nD τ) arg4 fullShare u) -∗ Q ⟨⟩))
      ⊢ wp frame (wpE (defs₀ (F := F)) Variants.none c none) E (cc0__argmin_kernel i arg1 harg1 arg2 harg2 arg3 harg3 arg4 harg4) Q := by
  have hc1 : ¬(k0_cond1 i = 1#1) := by simp only [k0_cond1, hi]; decide
  have hc2 : ¬(k0_cond2 i = 1#1) := by simp only [k0_cond2, hi]; decide
  have hc3 : ¬(k0_cond3 i = 1#1) := by simp only [k0_cond3, hi]; decide
  have hc4 : ¬(k0_cond4 i = 1#1) := by simp only [k0_cond4, hi]; decide
  have hc5 : (k0_cond5 i = 1#1) := by simp only [k0_cond5, hi]; decide
  have hc6 : ¬(k0_cond6 i = 1#1) := by simp only [k0_cond6, hi]; decide
  have hc7 : ¬(k0_cond7 i = 1#1) := by simp only [k0_cond7, hi]; decide
  have hc8 : ¬(k0_cond8 i = 1#1) := by simp only [k0_cond8, hi]; decide
  have hc9 : ¬(k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  subst hf1 hf2 hf3 hf4
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 11 _ _ _).trans ?_
    refine congrArg₂ (fun a b => putCol a 11 b) ?_ ?_
    · refine (stored_col arg3 f3 3 _ _ _).trans ?_
      refine congrArg₂ (fun a b => putCol a 3 b) rfl ?_
      unfold run_3.sl.r
      rw [View.readAt_full, View.readAt_full, load_col]
    · unfold run_3.sl.r_1
      rw [View.readAt_full, View.readAt_full, View.readAt_full, load_col]
  iexists _; isplitr; · ipureintro; rfl
  iexact H4

set_option maxHeartbeats 1000000 in
/-- Point 4. -/
theorem run_4 (hi : (i 0).val = 4) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X 4 (low x0 x1 (col X 16 inb_S8192x17_S8192x1_0_16))) 12 (arg i x0 x1 (col X 16 inb_S8192x17_S8192x1_0_16) u))
            ∗ owns (c : Thread nD τ) arg4 fullShare u) -∗ Q ⟨⟩))
      ⊢ wp frame (wpE (defs₀ (F := F)) Variants.none c none) E (cc0__argmin_kernel i arg1 harg1 arg2 harg2 arg3 harg3 arg4 harg4) Q := by
  have hc1 : ¬(k0_cond1 i = 1#1) := by simp only [k0_cond1, hi]; decide
  have hc2 : ¬(k0_cond2 i = 1#1) := by simp only [k0_cond2, hi]; decide
  have hc3 : ¬(k0_cond3 i = 1#1) := by simp only [k0_cond3, hi]; decide
  have hc4 : ¬(k0_cond4 i = 1#1) := by simp only [k0_cond4, hi]; decide
  have hc5 : ¬(k0_cond5 i = 1#1) := by simp only [k0_cond5, hi]; decide
  have hc6 : (k0_cond6 i = 1#1) := by simp only [k0_cond6, hi]; decide
  have hc7 : ¬(k0_cond7 i = 1#1) := by simp only [k0_cond7, hi]; decide
  have hc8 : ¬(k0_cond8 i = 1#1) := by simp only [k0_cond8, hi]; decide
  have hc9 : ¬(k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  subst hf1 hf2 hf3 hf4
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 12 _ _ _).trans ?_
    refine congrArg₂ (fun a b => putCol a 12 b) ?_ ?_
    · refine (stored_col arg3 f3 4 _ _ _).trans ?_
      refine congrArg₂ (fun a b => putCol a 4 b) rfl ?_
      unfold run_4.sl.r
      rw [View.readAt_full, View.readAt_full, load_col]
    · unfold run_4.sl.r_1
      rw [View.readAt_full, View.readAt_full, View.readAt_full, load_col]
  iexists _; isplitr; · ipureintro; rfl
  iexact H4

set_option maxHeartbeats 1000000 in
/-- Point 5. -/
theorem run_5 (hi : (i 0).val = 5) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X 5 (low x0 x1 (col X 16 inb_S8192x17_S8192x1_0_16))) 13 (arg i x0 x1 (col X 16 inb_S8192x17_S8192x1_0_16) u))
            ∗ owns (c : Thread nD τ) arg4 fullShare u) -∗ Q ⟨⟩))
      ⊢ wp frame (wpE (defs₀ (F := F)) Variants.none c none) E (cc0__argmin_kernel i arg1 harg1 arg2 harg2 arg3 harg3 arg4 harg4) Q := by
  have hc1 : ¬(k0_cond1 i = 1#1) := by simp only [k0_cond1, hi]; decide
  have hc2 : ¬(k0_cond2 i = 1#1) := by simp only [k0_cond2, hi]; decide
  have hc3 : ¬(k0_cond3 i = 1#1) := by simp only [k0_cond3, hi]; decide
  have hc4 : ¬(k0_cond4 i = 1#1) := by simp only [k0_cond4, hi]; decide
  have hc5 : ¬(k0_cond5 i = 1#1) := by simp only [k0_cond5, hi]; decide
  have hc6 : ¬(k0_cond6 i = 1#1) := by simp only [k0_cond6, hi]; decide
  have hc7 : (k0_cond7 i = 1#1) := by simp only [k0_cond7, hi]; decide
  have hc8 : ¬(k0_cond8 i = 1#1) := by simp only [k0_cond8, hi]; decide
  have hc9 : ¬(k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  subst hf1 hf2 hf3 hf4
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 13 _ _ _).trans ?_
    refine congrArg₂ (fun a b => putCol a 13 b) ?_ ?_
    · refine (stored_col arg3 f3 5 _ _ _).trans ?_
      refine congrArg₂ (fun a b => putCol a 5 b) rfl ?_
      unfold run_5.sl.r
      rw [View.readAt_full, View.readAt_full, load_col]
    · unfold run_5.sl.r_1
      rw [View.readAt_full, View.readAt_full, View.readAt_full, load_col]
  iexists _; isplitr; · ipureintro; rfl
  iexact H4

set_option maxHeartbeats 1000000 in
/-- Point 6. -/
theorem run_6 (hi : (i 0).val = 6) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X 6 (low x0 x1 (col X 16 inb_S8192x17_S8192x1_0_16))) 14 (arg i x0 x1 (col X 16 inb_S8192x17_S8192x1_0_16) u))
            ∗ owns (c : Thread nD τ) arg4 fullShare u) -∗ Q ⟨⟩))
      ⊢ wp frame (wpE (defs₀ (F := F)) Variants.none c none) E (cc0__argmin_kernel i arg1 harg1 arg2 harg2 arg3 harg3 arg4 harg4) Q := by
  have hc1 : ¬(k0_cond1 i = 1#1) := by simp only [k0_cond1, hi]; decide
  have hc2 : ¬(k0_cond2 i = 1#1) := by simp only [k0_cond2, hi]; decide
  have hc3 : ¬(k0_cond3 i = 1#1) := by simp only [k0_cond3, hi]; decide
  have hc4 : ¬(k0_cond4 i = 1#1) := by simp only [k0_cond4, hi]; decide
  have hc5 : ¬(k0_cond5 i = 1#1) := by simp only [k0_cond5, hi]; decide
  have hc6 : ¬(k0_cond6 i = 1#1) := by simp only [k0_cond6, hi]; decide
  have hc7 : ¬(k0_cond7 i = 1#1) := by simp only [k0_cond7, hi]; decide
  have hc8 : (k0_cond8 i = 1#1) := by simp only [k0_cond8, hi]; decide
  have hc9 : ¬(k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  subst hf1 hf2 hf3 hf4
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 14 _ _ _).trans ?_
    refine congrArg₂ (fun a b => putCol a 14 b) ?_ ?_
    · refine (stored_col arg3 f3 6 _ _ _).trans ?_
      refine congrArg₂ (fun a b => putCol a 6 b) rfl ?_
      unfold run_6.sl.r
      rw [View.readAt_full, View.readAt_full, load_col]
    · unfold run_6.sl.r_1
      rw [View.readAt_full, View.readAt_full, View.readAt_full, load_col]
  iexists _; isplitr; · ipureintro; rfl
  iexact H4

set_option maxHeartbeats 1000000 in
/-- Point 7. -/
theorem run_7 (hi : (i 0).val = 7) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X 7 (low x0 x1 (col X 16 inb_S8192x17_S8192x1_0_16))) 15 (arg i x0 x1 (col X 16 inb_S8192x17_S8192x1_0_16) u))
            ∗ owns (c : Thread nD τ) arg4 fullShare u) -∗ Q ⟨⟩))
      ⊢ wp frame (wpE (defs₀ (F := F)) Variants.none c none) E (cc0__argmin_kernel i arg1 harg1 arg2 harg2 arg3 harg3 arg4 harg4) Q := by
  have hc1 : ¬(k0_cond1 i = 1#1) := by simp only [k0_cond1, hi]; decide
  have hc2 : ¬(k0_cond2 i = 1#1) := by simp only [k0_cond2, hi]; decide
  have hc3 : ¬(k0_cond3 i = 1#1) := by simp only [k0_cond3, hi]; decide
  have hc4 : ¬(k0_cond4 i = 1#1) := by simp only [k0_cond4, hi]; decide
  have hc5 : ¬(k0_cond5 i = 1#1) := by simp only [k0_cond5, hi]; decide
  have hc6 : ¬(k0_cond6 i = 1#1) := by simp only [k0_cond6, hi]; decide
  have hc7 : ¬(k0_cond7 i = 1#1) := by simp only [k0_cond7, hi]; decide
  have hc8 : ¬(k0_cond8 i = 1#1) := by simp only [k0_cond8, hi]; decide
  have hc9 : (k0_cond9 i = 1#1) := by simp only [k0_cond9, hi]; decide
  simp only [cc0__argmin_kernel_eq_skeleton]; unfold cc0__argmin_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  subst hf1 hf2 hf3 hf4
  sl_exec (disch := first | sl_exact hc1 | sl_exact hc2 | sl_exact hc3 | sl_exact hc4 | sl_exact hc5 | sl_exact hc6 | sl_exact hc7 | sl_exact hc8 | sl_exact hc9)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (stored_col arg3 f3 15 _ _ _).trans ?_
    refine congrArg₂ (fun a b => putCol a 15 b) ?_ ?_
    · refine (stored_col arg3 f3 7 _ _ _).trans ?_
      refine congrArg₂ (fun a b => putCol a 7 b) rfl ?_
      unfold run_7.sl.r
      rw [View.readAt_full, View.readAt_full, load_col]
    · unfold run_7.sl.r_1
      rw [View.readAt_full, View.readAt_full, View.readAt_full, load_col]
  iexists _; isplitr; · ipureintro; rfl
  iexact H4

end Body

end Cert.Proof.Tiles

end
-- ==== Proof.Table.lean ====
/-
  The table that the first pipelined call of `nearest` leaves, as a function of the arrays that it reads, and the proof
  data of the call. The body fills the table a pair of columns at a time, so of the table's buffer between the points only
  the columns already filled are known.
-/
module

public import proofs.«01_k».proof.Proof.Tiles
public import Idealize.ShloMosaic.Lib.Pipeline.Value
public import Idealize.ShloMosaic.Lib.Pipeline.DatRel
public import Idealize.ShloMosaic.Lib.Pipeline.ArrRel
public import Idealize.ShloMosaic.Lib.ValueIdx

@[expose] public section

set_option maxRecDepth 16384

noncomputable section

namespace Cert.Proof.Table

open Cert.NearestIdeal Cert.NearestIdeal.Gen Cert.Proof.Tiles

open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The table -/

/-- The 1024 code vectors of tile `n`. -/
def tile (B : Vec F S8192x256 .f32) (n : ℕ) : Vec F S1024x256 .f32 :=
  fun y => B fun | 0 => (⟨(n * 1024 + (y 0).val) % 8192, Nat.mod_lt _ (by decide)⟩ : Fin 8192) | 1 => y 1

/-- The grid point of tile `n`. -/
def point (n : ℕ) : Fin cfg0.N := ⟨n % 8, Nat.lt_of_lt_of_eq (Nat.mod_lt _ (by decide)) N_0.symm⟩

theorem point_val (t : Fin cfg0.N) : point t.val = t :=
  Fin.ext (Nat.mod_eq_of_lt (Nat.lt_of_lt_of_eq t.isLt N_0))

/-- The squared norms of the latent vectors. -/
def norms (A : Vec F S8192x256 .f32) : Vec F S8192x1 .f32 := k0_pay1 A

/-- The least distances to tile `n`, and the first codes of the tile that attain them. -/
def tmin (A B : Vec F S8192x256 .f32) (n : ℕ) : Vec F S8192x1 .f32 := low A (tile B n) (norms A)
def tidx (A B : Vec F S8192x256 .f32) (n : ℕ) : Vec F S8192x1 .f32 := arg (grid0.coords (point n)) A (tile B n) (norms A) (k0_pay2 (F := F))

/-- The row of an entry of the table. -/
def row (j : S8192x17.Idx) : S8192x1.Idx := fun | 0 => j 0 | 1 => (0 : Fin 1)

/-- The whole table. -/
def table (A B : Vec F S8192x256 .f32) : Vec F S8192x17 .f32 := fun j =>
  if (j 1).val < 8 then tmin A B (j 1).val (row j) else if (j 1).val < 16 then tidx A B ((j 1).val - 8) (row j) else norms A (row j)

/-- The columns up to those of tile `n`, and the norms, are as they end. -/
def Meets (A B : Vec F S8192x256 .f32) (n : ℕ) (X : Vec F S8192x17 .f32) : Prop := ∀ j, (j 1).val % 8 ≤ n → X j = table A B j

theorem putCol_apply (X : Vec F S8192x17 .f32) (k : ℕ) (v : Vec F S8192x1 .f32) (j : S8192x17.Idx) :
    putCol X k v j = if (j 1).val = k then v (row j) else X j := by
  have hj : (j 0).val < 8192 := (j 0).isLt
  unfold putCol VecWindow.put
  by_cases h : (j 1).val = k
  · rw [if_pos h, dif_pos (by
      intro a
      match a with
      | ⟨0, _⟩ => exact ⟨Nat.zero_le _, by show (j 0).val < 0 + 8192; omega⟩
      | ⟨1, _⟩ => exact ⟨by show k ≤ (j 1).val; omega, by show (j 1).val < k + 1; omega⟩)]
    refine congrArg v (funext fun a => Fin.ext ?_)
    match a with
    | ⟨0, _⟩ => show (j 0).val - 0 = (j 0).val; omega
    | ⟨1, _⟩ => show (j 1).val - k = 0; omega
  · rw [if_neg h, dif_neg (by
      intro hall
      have h1 : k ≤ (j 1).val ∧ (j 1).val < k + 1 := hall 1
      omega)]

theorem meets_zero (A B : Vec F S8192x256 .f32) (X : Vec F S8192x17 .f32) :
    Meets A B 0 (putCol (putCol (putCol X 16 (norms A)) 0 (tmin A B 0)) 8 (tidx A B 0)) := by
  intro j hj
  have h17 : (j 1).val < 17 := (j 1).isLt
  rw [putCol_apply, putCol_apply, putCol_apply]
  unfold table
  by_cases h8 : (j 1).val = 8
  · rw [if_pos h8, if_neg (by omega), if_pos (by omega), h8]
  rw [if_neg h8]
  by_cases h0 : (j 1).val = 0
  · rw [if_pos h0, if_pos (by omega), h0]
  rw [if_neg h0, if_pos (by omega), if_neg (by omega), if_neg (by omega)]

theorem meets_succ (A B : Vec F S8192x256 .f32) (X : Vec F S8192x17 .f32) (n : ℕ) (hn : n < 8) (h0 : n ≠ 0) (h : Meets A B (n - 1) X) :
    Meets A B n (putCol (putCol X n (tmin A B n)) (n + 8) (tidx A B n)) := by
  intro j hj
  have h17 : (j 1).val < 17 := (j 1).isLt
  rw [putCol_apply, putCol_apply]
  by_cases h8 : (j 1).val = n + 8
  · rw [if_pos h8]; unfold table; rw [if_neg (by omega), if_pos (by omega), h8, Nat.add_sub_cancel]
  rw [if_neg h8]
  by_cases h1 : (j 1).val = n
  · rw [if_pos h1]; unfold table; rw [if_pos (by omega), h1]
  rw [if_neg h1]
  exact h j (by omega)

theorem meets_norms (A B : Vec F S8192x256 .f32) (X : Vec F S8192x17 .f32) (n : ℕ) (h : Meets A B n X) (hb) : col X 16 hb = norms A := by
  funext y
  have hy : (y 1).val < 1 := (y 1).isLt
  have e : col X 16 hb y = X ((Rect.unit (s := S8192x17) ![0, 16] S8192x1.size hb).emb y) := rfl
  have e1 : ((Rect.unit (s := S8192x17) ![0, 16] S8192x1.size hb).emb y 1).val = 16 := by show 16 + 1 * (y 1).val = 16; omega
  rw [e, h _ (by rw [e1]; omega)]
  unfold table
  rw [if_neg (by rw [e1]; omega), if_neg (by rw [e1]; omega)]
  refine congrArg (norms A) (funext fun a => Fin.ext ?_)
  match a with
  | ⟨0, _⟩ => show 0 + 1 * (y 0).val = (y 0).val; omega
  | ⟨1, _⟩ => show 0 = (y 1).val; omega

theorem meets_last (A B : Vec F S8192x256 .f32) (X : Vec F S8192x17 .f32) (h : Meets A B 7 X) : X = table A B :=
  funext fun j => h j (by omega)

/-! ## A point after the first -/

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

section Later

variable (c : Dev nD) (E : Set ℕ) (t : Fin cfg0.N) (arg1 : Memref sig .tc .vmem S8192x256 .f32) (harg1 : arg1.IsWhole)
  (arg2 : Memref sig .tc .vmem S1024x256 .f32) (harg2 : arg2.IsWhole) (arg3 : Memref sig .tc .vmem S8192x17 .f32) (harg3 : arg3.IsWhole)
  (arg4 : Memref sig .tc .vmem S1x1024 .f32) (harg4 : arg4.IsWhole)
  (x0 : Vec F S8192x256 .f32) (x1 : Vec F S1024x256 .f32) (X : Vec F S8192x17 .f32) (u : Vec F S1x1024 .f32)

theorem run_later (h0 : t.val ≠ 0) (Q : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare u
        ∗ (iprop(owns (c : Thread nD τ) arg1 fullShare x0 ∗ owns (c : Thread nD τ) arg2 fullShare x1
            ∗ owns (c : Thread nD τ) arg3 fullShare (putCol (putCol X t.val (low x0 x1 (col X 16 inb_S8192x17_S8192x1_0_16))) (t.val + 8)
                (arg (grid0.coords t) x0 x1 (col X 16 inb_S8192x17_S8192x1_0_16) u))
            ∗ owns (c : Thread nD τ) arg4 fullShare u) -∗ Q ⟨⟩))
      ⊢ wp frame (wpE (defs₀ (F := F)) Variants.none c none) E (cc0__argmin_kernel (grid0.coords t) arg1 harg1 arg2 harg2 arg3 harg3 arg4 harg4) Q := by
  have ht : t.val < 8 := Nat.lt_of_lt_of_eq t.isLt N_0
  obtain e | e | e | e | e | e | e : t.val = 1 ∨ t.val = 2 ∨ t.val = 3 ∨ t.val = 4 ∨ t.val = 5 ∨ t.val = 6 ∨ t.val = 7 := by omega
  · rw [e]; exact run_1 c E _ _ _ _ _ _ _ _ _ _ _ _ _ ((coord t).trans e) Q
  · rw [e]; exact run_2 c E _ _ _ _ _ _ _ _ _ _ _ _ _ ((coord t).trans e) Q
  · rw [e]; exact run_3 c E _ _ _ _ _ _ _ _ _ _ _ _ _ ((coord t).trans e) Q
  · rw [e]; exact run_4 c E _ _ _ _ _ _ _ _ _ _ _ _ _ ((coord t).trans e) Q
  · rw [e]; exact run_5 c E _ _ _ _ _ _ _ _ _ _ _ _ _ ((coord t).trans e) Q
  · rw [e]; exact run_6 c E _ _ _ _ _ _ _ _ _ _ _ _ _ ((coord t).trans e) Q
  · rw [e]; exact run_7 c E _ _ _ _ _ _ _ _ _ _ _ _ _ ((coord t).trans e) Q

end Later

/-! ## The proof data -/

variable (V : Valuation τ sig (Elt F))

/-- The latent vectors and the code vectors, as the call finds them. -/
abbrev lat : Vec F S8192x256 .f32 := V (Proc.devRef .tc (main_v1 : Ref sig .tc))
abbrev emb : Vec F S8192x256 .f32 := V (Proc.devRef .tc (main_arg1 : Ref sig .tc))

/-- Before point `n` the scratch buffer holds the numbers; before the first, anything. -/
def inv (c : Dev nD) (n : ℕ) : sProp 𝕄 :=
  iprop((∃ d, ⌜n ≠ 0 → d = k0_pay2 (F := F)⌝ ∗ owns (c : Thread nD τ) (Memref.whole cc0_scratch0) fullShare d)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ r, prngReg c r))

/-- The call's proof data. -/
def dat (c : Dev nD) : Dat τ (Elt F) Unit ℕ (UR sig nD τ) ℕ cfg0 c where
  A w := V (Proc.devRef .tc (Pipeline.arrRef spec0 w))
  after w t := match w with
    | ⟨0, _⟩ => lat V
    | ⟨1, _⟩ => tile (emb V) t.val
    | ⟨2, _⟩ => table (lat V) (emb V)
  Φ n := inv c n.val
  q _ := fullShare
  owed _ := 0

/-- Only the table's buffer is held to less than its exact contents. -/
def marked : Fin cfg0.W → Bool
  | ⟨0, _⟩ => false
  | ⟨1, _⟩ => false
  | ⟨2, _⟩ => true

/-- What the body leaves in the table's buffer. -/
def left : (w : Fin cfg0.W) → Fin cfg0.N → ((cfg0.win w).block.Idx → Elt F (cfg0.win w).elt) → Prop
  | ⟨0, _⟩ => fun _ _ => True
  | ⟨1, _⟩ => fun _ _ => True
  | ⟨2, _⟩ => fun t X => Meets (lat V) (emb V) t.val X

/-- The relational data. -/
abbrev rdat (c : Dev nD) : RDat τ (Elt F) Unit ℕ (UR sig nD τ) ℕ cfg0 c := (dat V c).toRRel marked (left V)

theorem A_eq (c : Dev nD) (w : Fin cfg0.W) : (dat V c).A w = V (Proc.devRef .tc (Pipeline.arrRef spec0 w)) := by dsimp only [dat]
theorem after_0 (c : Dev nD) (t : Fin cfg0.N) : (dat V c).after 0 t = lat V := by dsimp only [dat]
theorem after_1 (c : Dev nD) (t : Fin cfg0.N) : (dat V c).after 1 t = tile (emb V) t.val := by dsimp only [dat]

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)

theorem emb0 (t : Fin cfg0.N) (j : S8192x256.Idx) : ((cfg0.win 0).blk t).view.emb j = j := by
  obtain ⟨e0, e1⟩ := idx0 t
  funext a; apply Fin.ext
  match a with
  | ⟨0, _⟩ => show win0_0.index t (0 : Fin 2) * 8192 + 1 * (j 0).val = (j 0).val; omega
  | ⟨1, _⟩ => show win0_0.index t (1 : Fin 2) * 256 + 1 * (j 1).val = (j 1).val; omega
theorem emb1 (t : Fin cfg0.N) (j : S1024x256.Idx) :
    ((cfg0.win 1).blk t).view.emb j = (fun | 0 => (⟨(t.val * 1024 + (j 0).val) % 8192, Nat.mod_lt _ (by decide)⟩ : Fin 8192) | 1 => j 1 : S8192x256.Idx) := by
  obtain ⟨e0, e1⟩ := idx1 t
  have ht : t.val < 8 := Nat.lt_of_lt_of_eq t.isLt N_0
  have hj : (j 0).val < 1024 := (j 0).isLt
  funext a; apply Fin.ext
  match a with
  | ⟨0, _⟩ => show win0_1.index t (0 : Fin 2) * 1024 + 1 * (j 0).val = (t.val * 1024 + (j 0).val) % 8192; rw [e0]; omega
  | ⟨1, _⟩ => show win0_1.index t (1 : Fin 2) * 256 + 1 * (j 1).val = (j 1).val; omega

theorem read0 (t : Fin cfg0.N) (X : Vec F S8192x256 .f32) : ((cfg0.win 0).blk t).view.read (Elt F) X = X := by
  funext j; show X (((cfg0.win 0).blk t).view.emb j) = _; rw [emb0]
theorem read1 (t : Fin cfg0.N) (X : Vec F S8192x256 .f32) : ((cfg0.win 1).blk t).view.read (Elt F) X = tile X t.val := by
  funext j; show X (((cfg0.win 1).blk t).view.emb j) = _; rw [emb1]; rfl

theorem before_0 (c : Dev nD) (t : Fin cfg0.N) (d) : (dat V c).before 0 t d = lat V :=
  ((dat V c).before_in_eq_fetched 0 rfl (fun _ => rfl) (fun _ _ _ => rfl)
    (fun t => by rw [after_0 V c]; unfold Dat.blockOf; rw [A_eq V c]; exact (read0 (F := F) t _).symm) t d).trans
    (by unfold Dat.fetched Dat.blockOf; rw [A_eq V c]; exact read0 (F := F) t _)
theorem before_1 (c : Dev nD) (t : Fin cfg0.N) (d) : (dat V c).before 1 t d = tile (emb V) t.val :=
  ((dat V c).before_in_eq_fetched 1 rfl (fun _ => rfl) (fun _ _ _ => rfl)
    (fun t => by rw [after_1 V c]; unfold Dat.blockOf; rw [A_eq V c]; exact (read1 (F := F) t _).symm) t d).trans
    (by unfold Dat.fetched Dat.blockOf; rw [A_eq V c]; exact read1 (F := F) t _)

theorem fetch0_2 : ∀ t : Fin cfg0.N, (cfg0.win 2).fetch t = false := fun t => rfl

/-- After the first point the table's buffer is found with the columns of the points before filled. -/
theorem finds (c : Dev nD) (t : Fin cfg0.N) (h0 : t.val ≠ 0) (Y) (h : (rdat V c).Finds 2 t Y) : Meets (lat V) (emb V) (t.val - 1) Y := by
  have ht : t.val < 8 := Nat.lt_of_lt_of_eq t.isLt N_0
  rw [(rdat V c).finds_of_pos (fetch0_2 t) h0] at h
  rcases h with h | h
  · have := (flush0_2 ⟨t.val - 1, _⟩).mp h
    simp only at this
    omega
  · exact Dat.toRRel_leaves (dat V c) (w := 2) rfl h

/-! ## The body obligation -/

theorem sound_body (c : Dev nD) (t : Fin cfg0.N) :
    (iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ Y, ⌜(rdat V c).Finds 2 t Y⌝ ∗ owns (c : Thread nD τ) (st0_2 t) fullShare Y)) : sProp 𝕄)
    ⊢ wp frame (wpE (defs₀ (F := F)) Variants.none c none) Set.univ (bodyAt0 t) (fun _ =>
      iprop((dat V c).Φ t.succ ∗ (dat V c).owesAt () t.succ
      ∗ owns (c : Thread nD τ) (st0_0 t) fullShare ((dat V c).after 0 t)
      ∗ owns (c : Thread nD τ) (st0_1 t) fullShare ((dat V c).after 1 t)
      ∗ (∃ X, ⌜Meets (lat V) (emb V) t.val X⌝ ∗ owns (c : Thread nD τ) (st0_2 t) fullShare X))) := by
  have ht : t.val < 8 := Nat.lt_of_lt_of_eq t.isLt N_0
  unfold bodyAt0
  rw [show (dat V c).Φ t.succ = inv c (t.val + 1) from rfl, show (dat V c).Φ t.castSucc = inv c t.val from rfl,
    show (dat V c).owesAt () t.succ = (dat V c).owesAt () t.castSucc from rfl, after_0, after_1]
  simp only [before_0, before_1]
  unfold inv
  iintro ⟨⟨⟨%du, %hu, HU⟩, HR⟩, Ho, ⟨%d0, H0⟩, ⟨%d1, H1⟩, ⟨%Y, %hY, H2⟩⟩
  by_cases h0 : t.val = 0
  · iapply (run_0 c Set.univ (grid0.coords t) _ _ _ _ _ _ _ _ (lat V) (tile (emb V) t.val) Y ((coord t).trans h0) _)
    isplitl [H0]; · iexact H0
    isplitl [H1]; · iexact H1
    isplitl [H2]; · iexact H2
    isplitl [HU]; · iexists _; iexact HU
    iintro ⟨H0, H1, H2, HU⟩
    isplitl [HU HR]
    · isplitl [HU]
      · iexists _; isplitr
        swap; · iexact HU
        ipureintro
        intro _; rfl
      iexact HR
    isplitl [Ho]; · iexact Ho
    isplitl [H0]; · iexact H0
    isplitl [H1]; · iexact H1
    iexists _; isplitr
    swap; · iexact H2
    ipureintro
    have e := meets_zero (lat V) (emb V) Y
    unfold tmin tidx at e
    rw [← h0, point_val] at e
    rw [h0] at e ⊢
    exact e
  · obtain rfl := hu h0
    have hm := finds V c t h0 Y hY
    iapply (run_later c Set.univ t _ _ _ _ _ _ _ _ (lat V) (tile (emb V) t.val) Y _ h0 _)
    isplitl [H0]; · iexact H0
    isplitl [H1]; · iexact H1
    isplitl [H2]; · iexact H2
    isplitl [HU]; · iexact HU
    iintro ⟨H0, H1, H2, HU⟩
    isplitl [HU HR]
    · isplitl [HU]
      · iexists _; isplitr
        swap; · iexact HU
        ipureintro
        intro _; rfl
      iexact HR
    isplitl [Ho]; · iexact Ho
    isplitl [H0]; · iexact H0
    isplitl [H1]; · iexact H1
    iexists _; isplitr
    swap; · iexact H2
    ipureintro
    rw [meets_norms _ _ _ _ hm]
    have e := meets_succ (lat V) (emb V) Y t.val ht h0 hm
    unfold tmin tidx at e
    rw [point_val] at e
    exact e

theorem defs_row (t : Fin cfg0.N) : defs₀ (F := F) .tc cfg0.body (cfg0.bodyArgs t (cfg0.slots t)) = bodyAt0 t := by
  rfl

theorem body (c : Dev nD) : BodyObligationRel (dat V c) (defs₀ (F := F)) Variants.none () Set.univ marked (left V) := fun t => by
  rw [bigSep_W0, bigSep_W0, defs_row]
  exact triple_restated (sound_body V c t) rfl .rfl fun _ => .rfl

theorem enter (c : Dev nD) : iprop((Pipeline.scopedRest spec0 c : sProp 𝕄) ∗ ∃ r, prngReg c r) ⊢ (dat V c).Φ 0 := by
  rw [show (dat V c).Φ 0 = inv c 0 from rfl, scopedRest0_eq]
  unfold inv
  iintro ⟨⟨⟨%f0, H0⟩, H1, H2⟩, Hp⟩
  isplitl [H0]
  · iexists f0; isplitr; · ipureintro; exact fun h => absurd rfl h
    rw [owns_whole]; iexact H0
  isplitl [H1]; · iexact H1
  isplitl [H2]; · iexact H2
  iexact Hp

theorem leave (c : Dev nD) : (dat V c).Φ (Fin.last cfg0.N) ⊢ iprop((Pipeline.scopedRest spec0 c : sProp 𝕄) ∗ ∃ r, prngReg c r) := by
  rw [show (dat V c).Φ (Fin.last cfg0.N) = inv c cfg0.N from rfl, scopedRest0_eq]
  unfold inv
  simp only [owns_whole]
  iintro ⟨⟨%f0, -, H0⟩, H1, H2, Hp⟩
  isplitr [Hp]
  · isplitl [H0]; · iexists f0; iexact H0
    isplitl [H1]; · iexact H1
    iexact H2
  iexact Hp

/-! ## What the call leaves -/

theorem final_2 [∀ e, Nonempty (Elt F e)] (c : Dev nD) (G) (hG : (rdat V c).ArrAt 2 cfg0.N G) : G = table (lat V) (emb V) := by
  have hw : (cfg0.win 2).WholeAt t0_7 := by decide +kernel
  obtain ⟨X, hX, e⟩ := hG.emb_eq_of_wholeAt hw
  have hm : Meets (lat V) (emb V) 7 X := Dat.toRRel_leaves (dat V c) (w := 2) rfl hX
  rw [← meets_last _ _ _ hm]
  funext j
  exact e j

theorem final_0 (c : Dev nD) (G) (hG : (rdat V c).ArrAt 0 cfg0.N G) : G = lat V := by
  rw [(rdat V c).ArrAt_in 0 rfl] at hG
  exact hG

theorem final_1 (c : Dev nD) (G) (hG : (rdat V c).ArrAt 1 cfg0.N G) : G = emb V := by
  rw [(rdat V c).ArrAt_in 1 rfl] at hG
  exact hG

end Cert.Proof.Table

end
-- ==== Proof.Combine.lean ====
/-
  The second pipelined call of `nearest`: at its one grid point it reads the table of the first call, takes over each half of the
  tiles the least distance and the least of the codes that attain it, and stores for every latent vector the code of the
  half that wins.
-/
module

public import proofs.«01_k».proof.Proof.Table

@[expose] public section

set_option maxRecDepth 16384

noncomputable section

namespace Cert.Proof.Combine

open Cert.NearestIdeal Cert.NearestIdeal.Gen

open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Four columns of the table, from column `k`. -/
def cols (X : Vec F S8192x17 .f32) (k : ℕ) (h : ∀ a, (![0, k] : Fin 2 → ℕ) a + S8192x4.size a ≤ S8192x17.size a) : Vec F S8192x4 .f32 :=
  VecWindow.window (s := S8192x17) X ![0, k] S8192x4.size h

/-- What the call stores, of the table. -/
def best (X : Vec F S8192x17 .f32) : Vec F S8192x1 .i32 :=
  k1_pay1 (cols X 0 inb_S8192x17_S8192x4_0_0) (cols X 4 inb_S8192x17_S8192x4_0_4) (cols X 8 inb_S8192x17_S8192x4_0_8) (cols X 12 inb_S8192x17_S8192x4_0_12)

theorem run_body (c : Dev nD) (E : Set ℕ) (arg0 : Memref sig .tc .vmem S8192x17 .f32) (harg0 : arg0.IsWhole)
    (arg1 : Memref sig .tc .vmem S8192x1 .i32) (harg1 : arg1.IsWhole) (X : Vec F S8192x17 .f32) (Q : PUnit → sProp 𝕄) :
    iprop(owns (c : Thread nD τ) arg0 fullShare X ∗ (∃ d, owns (c : Thread nD τ) arg1 fullShare d)
        ∗ (iprop(owns (c : Thread nD τ) arg0 fullShare X ∗ owns (c : Thread nD τ) arg1 fullShare (best X)) -∗ Q ⟨⟩))
      ⊢ wp frame (wpE (defs₀ (F := F)) Variants.none c none) E (cc1__combine_kernel arg0 harg0 arg1 harg1) Q := by
  simp only [cc1__combine_kernel_eq_skeleton]; unfold cc1__combine_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_full _ _ _ _ _).trans ?_
  unfold best cols
  rw [View.readAt_unit _ _ _ rfl inb_S8192x17_S8192x4_0_0, View.readAt_unit _ _ _ rfl inb_S8192x17_S8192x4_0_4,
    View.readAt_unit _ _ _ rfl inb_S8192x17_S8192x4_0_8, View.readAt_unit _ _ _ rfl inb_S8192x17_S8192x4_0_12]

variable (V : Valuation τ sig (Elt F))

/-- The table, as the call finds it. -/
abbrev tab : Vec F S8192x17 .f32 := V (Proc.devRef .tc (main_v2 : Ref sig .tc))

/-- The call's proof data. -/
def dat (c : Dev nD) : Dat τ (Elt F) Unit ℕ (UR sig nD τ) ℕ cfg1 c where
  A w := V (Proc.devRef .tc (Pipeline.arrRef spec1 w))
  after w t := match w with
    | ⟨0, _⟩ => tab V
    | ⟨1, _⟩ => best (tab V)
  Φ _ := iprop(Pipeline.scopedRest spec1 c ∗ ∃ r, prngReg c r)
  q _ := fullShare
  owed _ := 0

/-- Every window is held to its exact contents. -/
def marked : Fin cfg1.W → Bool := fun _ => false
def left : (w : Fin cfg1.W) → Fin cfg1.N → ((cfg1.win w).block.Idx → Elt F (cfg1.win w).elt) → Prop := fun _ _ _ => True

abbrev rdat (c : Dev nD) : RDat τ (Elt F) Unit ℕ (UR sig nD τ) ℕ cfg1 c := (dat V c).toRRel marked left

theorem A_eq (c : Dev nD) (w : Fin cfg1.W) : (dat V c).A w = V (Proc.devRef .tc (Pipeline.arrRef spec1 w)) := by dsimp only [dat]
theorem after_0 (c : Dev nD) (t : Fin cfg1.N) : (dat V c).after 0 t = tab V := by dsimp only [dat]
theorem after_1 (c : Dev nD) (t : Fin cfg1.N) : (dat V c).after 1 t = best (tab V) := by dsimp only [dat]

theorem idx0 : ∀ t : Fin cfg1.N, win1_0.index t (0 : Fin 2) = 0 ∧ win1_0.index t (1 : Fin 2) = 0 := (by decide +kernel : ∀ t : Fin grid1.N, _)

theorem emb0 (t : Fin cfg1.N) (j : S8192x17.Idx) : ((cfg1.win 0).blk t).view.emb j = j := by
  obtain ⟨e0, e1⟩ := idx0 t
  funext a; apply Fin.ext
  match a with
  | ⟨0, _⟩ => show win1_0.index t (0 : Fin 2) * 8192 + 1 * (j 0).val = (j 0).val; omega
  | ⟨1, _⟩ => show win1_0.index t (1 : Fin 2) * 17 + 1 * (j 1).val = (j 1).val; omega

theorem read0 (t : Fin cfg1.N) (X : Vec F S8192x17 .f32) : ((cfg1.win 0).blk t).view.read (Elt F) X = X := by
  funext j; show X (((cfg1.win 0).blk t).view.emb j) = _; rw [emb0]

theorem before_0 (c : Dev nD) (t : Fin cfg1.N) (d) : (dat V c).before 0 t d = tab V :=
  ((dat V c).before_in_eq_fetched 0 rfl (fun _ => rfl) (fun _ _ _ => rfl)
    (fun t => by rw [after_0 V c]; unfold Dat.blockOf; rw [A_eq V c]; exact (read0 (F := F) t _).symm) t d).trans
    (by unfold Dat.fetched Dat.blockOf; rw [A_eq V c]; exact read0 (F := F) t _)

theorem sound_body (c : Dev nD) (t : Fin cfg1.N) :
    (iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))) : sProp 𝕄)
    ⊢ wp frame (wpE (defs₀ (F := F)) Variants.none c none) Set.univ (bodyAt1 t) (fun _ =>
      iprop((dat V c).Φ t.succ ∗ (dat V c).owesAt () t.succ
      ∗ owns (c : Thread nD τ) (st1_0 t) fullShare ((dat V c).after 0 t)
      ∗ owns (c : Thread nD τ) (st1_1 t) fullShare ((dat V c).after 1 t))) := by
  unfold bodyAt1
  simp only [before_0]
  rw [show (dat V c).Φ t.succ = (dat V c).Φ t.castSucc from rfl,
    show (dat V c).owesAt () t.succ = (dat V c).owesAt () t.castSucc from rfl, after_0, after_1]
  iintro ⟨HΦ, Ho, ⟨%d0, H0⟩, ⟨%d1, H1⟩⟩
  iapply (run_body c Set.univ _ _ _ _ (tab V) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs_row (t : Fin cfg1.N) : defs₀ (F := F) .tc cfg1.body (cfg1.bodyArgs t (cfg1.slots t)) = bodyAt1 t := by
  rfl

theorem body (c : Dev nD) : BodyObligationRel (dat V c) (defs₀ (F := F)) Variants.none () Set.univ marked left := fun t => by
  rw [bigSep_W1, bigSep_W1, defs_row]
  exact triple_restated (sound_body V c t) rfl .rfl fun _ => .rfl

/-! ## What the call leaves -/

theorem final_0 (c : Dev nD) (G) (hG : (rdat V c).ArrAt 0 cfg1.N G) : G = tab V := by
  rw [(rdat V c).ArrAt_in 0 rfl] at hG
  exact hG

theorem final_1 [∀ e, Nonempty (Elt F e)] (c : Dev nD) (G) (hG : (rdat V c).ArrAt 1 cfg1.N G) : G = best (tab V) := by
  have hw : (cfg1.win 1).WholeAt t1_0 := by decide +kernel
  obtain ⟨X, hX, e⟩ := hG.emb_eq_of_wholeAt hw
  have hm : X = best (tab V) := by
    obtain ⟨Y, hY, h⟩ := hX
    rw [Dat.toRRel_after_of_eq_false (dat V c) (w := 1) rfl] at h
    exact (show X = (dat V c).after 1 t1_0 from h).trans (after_1 V c t1_0)
  rw [← hm]
  funext j
  exact e j

end Cert.Proof.Combine

end
-- ==== Proof.Search.lean ====
/-
  The run of `nearest`: the host's transpose and reshape, the pipelined call that fills the table and the pipelined call
  that reads it. What the last buffer ends with is a function of the arguments.
-/
module

public import proofs.«01_k».proof.Proof.Combine
public import Idealize.ShloMosaic.Lib.Pipeline.RegionsLoop
public import Idealize.ShloMosaic.Lib.Pipeline.RegionArrays

@[expose] public section

set_option maxRecDepth 16384

noncomputable section

namespace Cert.Proof.Search

open Cert.NearestIdeal Cert.NearestIdeal.Gen

open Idealize.ShloMosaic Idealize.ShloMosaic.TcCoe Idealize.ShloMosaic.Tactic
open Idealize.ShloMosaic.Pipeline (Dat RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (c : Dev nD)

/-! ## The buffers between the items -/

/-- The buffers before the first call, after it, and after the second. -/
def W1 : Valuation τ sig (Elt F) := V1 m c
def W2 : Valuation τ sig (Elt F) := Function.update (W1 m c) (Proc.devRef .tc main_v2) (Table.table (Table.lat (W1 m c)) (Table.emb (W1 m c)))
def W3 : Valuation τ sig (Elt F) := Function.update (W2 m c) (Proc.devRef .tc main_v3) (Combine.best (Combine.tab (W2 m c)))

theorem upd_ne (V : Valuation τ sig (Elt F)) {r b : Ref sig .tc} (v) (h : b ≠ r) :
    Function.update V (Proc.devRef .tc r) v (Proc.devRef .tc b) = V (Proc.devRef .tc b) :=
  Function.update_of_ne (StableHlo.devRef_ne_of_ne h) _ _

theorem upd_self (V : Valuation τ sig (Elt F)) (r : Ref sig .tc) (v) :
    Function.update V (Proc.devRef .tc r) v (Proc.devRef .tc r) = v := Function.update_self _ _ _

theorem W3_arg0 : W3 m c (Proc.devRef .tc main_arg0) = m ((c : Thread nD τ).loc main_arg0) :=
  (upd_ne (r := main_v3) (b := main_arg0) _ _ (by decide)).trans ((upd_ne (r := main_v2) (b := main_arg0) _ _ (by decide)).trans
    ((V1_of m c main_arg0 (by decide)).trans rfl))
theorem W3_arg1 : W3 m c (Proc.devRef .tc main_arg1) = m ((c : Thread nD τ).loc main_arg1) :=
  (upd_ne (r := main_v3) (b := main_arg1) _ _ (by decide)).trans ((upd_ne (r := main_v2) (b := main_arg1) _ _ (by decide)).trans
    ((V1_of m c main_arg1 (by decide)).trans rfl))
theorem W3_result : W3 m c (Proc.devRef .tc main_v3) = Combine.best (Table.table (Table.lat (W1 m c)) (Table.emb (W1 m c))) := by
  refine (upd_self _ main_v3 _).trans (congrArg Combine.best ?_)
  exact upd_self _ main_v2 _

/-! ## The calls' data -/

def dats : (p : Fin 2) → (c : Dev nD) → Dat τ (Elt F) Unit ℕ (UR sig nD τ) ℕ (cfgs p) c
  | 0 => fun c => Table.dat (W1 m c) c
  | 1 => fun c => Combine.dat (W2 m c) c
  | ⟨_ + 2, h⟩ => absurd h (Nat.not_lt.2 (Nat.le_add_left _ _))

def rdats : (p : Fin 2) → (c : Dev nD) → RDat τ (Elt F) Unit ℕ (UR sig nD τ) ℕ (cfgs p) c
  | 0 => fun c => Table.rdat (W1 m c) c
  | 1 => fun c => Combine.rdat (W2 m c) c
  | ⟨_ + 2, h⟩ => absurd h (Nat.not_lt.2 (Nat.le_add_left _ _))

theorem in0 (w : Fin cfg0.W) : (rdats m 0 c).A w = W1 m c (Proc.devRef .tc (Pipeline.arrRef spec0 w)) := Table.A_eq (W1 m c) c w
theorem in1 (w : Fin cfg1.W) : (rdats m 1 c).A w = W2 m c (Proc.devRef .tc (Pipeline.arrRef spec1 w)) := Combine.A_eq (W2 m c) c w

theorem share0 (w : Fin cfg0.W) : (dats m 0 c).share w = fullShare := by unfold Dat.share; split <;> rfl
theorem share1 (w : Fin cfg1.W) : (dats m 1 c).share w = fullShare := by unfold Dat.share; split <;> rfl
theorem rshare0 (w : Fin cfg0.W) : (rdats m 0 c).share w = fullShare := by unfold RDat.share; split <;> rfl
theorem rshare1 (w : Fin cfg1.W) : (rdats m 1 c).share w = fullShare := by unfold RDat.share; split <;> rfl

theorem out0 [∀ e, Nonempty (Elt F e)] (w : Fin cfg0.W) (G) (hG : (rdats m 0 c).ArrAt w cfg0.N G) : G = W2 m c (Proc.devRef .tc (Pipeline.arrRef spec0 w)) := by
  match w with
  | 0 => exact (Table.final_0 (W1 m c) c G hG).trans (upd_ne (r := main_v2) (b := main_v1) _ _ (by decide)).symm
  | 1 => exact (Table.final_1 (W1 m c) c G hG).trans (upd_ne (r := main_v2) (b := main_arg1) _ _ (by decide)).symm
  | 2 => exact (Table.final_2 (W1 m c) c G hG).trans (upd_self _ main_v2 _).symm

theorem out1 [∀ e, Nonempty (Elt F e)] (w : Fin cfg1.W) (G) (hG : (rdats m 1 c).ArrAt w cfg1.N G) : G = W3 m c (Proc.devRef .tc (Pipeline.arrRef spec1 w)) := by
  match w with
  | 0 => exact (Combine.final_0 (W2 m c) c G hG).trans (upd_ne (r := main_v3) (b := main_v2) _ _ (by decide)).symm
  | 1 => exact (Combine.final_1 (W2 m c) c G hG).trans (upd_self _ main_v3 _).symm

theorem rest0 (b : Ref sig .tc) (hb : b ∉ Finset.univ.image (Pipeline.arrRef spec0)) : W2 m c (Proc.devRef .tc b) = W1 m c (Proc.devRef .tc b) :=
  upd_ne (r := main_v2) _ _ fun e => hb (e ▸ Finset.mem_image_of_mem (Pipeline.arrRef spec0) (Finset.mem_univ (2 : Fin 3)))
theorem rest1 (b : Ref sig .tc) (hb : b ∉ Finset.univ.image (Pipeline.arrRef spec1)) : W3 m c (Proc.devRef .tc b) = W2 m c (Proc.devRef .tc b) :=
  upd_ne (r := main_v3) _ _ fun e => hb (e ▸ Finset.mem_image_of_mem (Pipeline.arrRef spec1) (Finset.mem_univ (1 : Fin 2)))

/-! ## The records -/

abbrev L : GSem nD τ sig → Finset Unit := fun _ => ∅
abbrev lv : GSem nD τ sig → Unit → ℕ := fun _ _ => 0

/-- What rides beside the buffers between the items: the generator register, and the core owing nothing. -/
def beside (c : Dev nD) : sProp 𝕄 := iprop((∃ r, prngReg c r) ∗ ∃ W, owes (c.tc : Thread nD τ) (0 : CellTallies nD τ sig Unit) W)

/-- The arrays after a call, at the contents that the data force. -/
theorem arrays_forced {cfg : Pipeline.Cfg sig Λ₀} (rd : RDat τ (Elt F) Unit ℕ (UR sig nD τ) ℕ cfg c) (n : ℕ) (A : (w : Fin cfg.W) → Buf (Elt F) ((cfg.win w).arr.view.loc (c.tc : Thread nD τ)))
    (h : ∀ w G, rd.ArrAt w n G → G = A w) : (rd.arraysAt n : sProp 𝕄) ⊢ rd.arrays A := by
  unfold RDat.arraysAt RDat.arrays
  have e : ∀ w, (iprop(∃ G, ⌜rd.ArrAt w n G⌝ ∗ View.loc (c.tc : Thread nD τ) (cfg.win w).arr.view ↦[(cfg.win w).arr.view.set]{rd.share w} G) : sProp 𝕄)
      ⊢ View.loc (c.tc : Thread nD τ) (cfg.win w).arr.view ↦[(cfg.win w).arr.view.set]{rd.share w} A w := fun w => by
    iintro ⟨%G, %hG, H⟩
    rw [← h w G hG]
    iexact H
  exact bigSep_mono fun w _ => e w

section Records

variable [∀ e, Nonempty (Elt F e)]

theorem arrays0 : ((rdats m 0 c).arraysAt cfg0.N : sProp 𝕄) ⊢ (dats m 0 c).arrays (fun w => W2 m c (Proc.devRef .tc (Pipeline.arrRef spec0 w))) :=
  arrays_forced c (rdats m 0 c) cfg0.N _ (out0 m c)
theorem arrays1 : ((rdats m 1 c).arraysAt cfg1.N : sProp 𝕄) ⊢ (dats m 1 c).arrays (fun w => W3 m c (Proc.devRef .tc (Pipeline.arrRef spec1 w))) :=
  arrays_forced c (rdats m 1 c) cfg1.N _ (out1 m c)

set_option backward.isDefEq.respectTransparency.types false in
def reg0 : RDat.RegionSeg (pcfgs (F := F)) adm (rdats m) () defs₀ Variants.none L lv 0 where
  win := (launch0.toP (Val := Elt F)).win.to₀
  block_pos := (launch0.toP (Val := Elt F)).block_pos
  stage_whole := (launch0.toP (Val := Elt F)).stage_whole
  K := PEmpty
  osem := fun k => k.elim
  ho := Pipeline.OwnSemFacts.none _
  hbody := fun c => (Table.body (W1 m c) c).toRRel
  hwaits := RDat.hwaits_of_owed_zero (pcfgs (F := F)) adm (rdats m) () L lv 0 fun _ _ => rfl
  pre := fun c => iprop(StableHlo.held (c.tc : Thread nD τ) (Pipeline.ucRefs τ sig) (W1 m c) ∗ beside c)
  post := fun c => iprop(StableHlo.held (c.tc : Thread nD τ) (Pipeline.ucRefs τ sig) (W2 m c) ∗ beside c)
  X := fun c => iprop(∃ r, prngReg c r)
  Y := fun c => iprop(∃ r, prngReg c r)
  Z := fun c => Pipeline.unscopedRest (Ix := Unit) (Name := ℕ) (U := UR sig nD τ) (Lvl := ℕ) spec0 c (fun b => W1 m c (Proc.devRef .tc b))
  hentry := fun c => by
    rw [Pipeline.ownSems0_none, ← Pipeline.unscopedBufs_held (Ix := Unit) (Name := ℕ) (U := UR sig nD τ) (Lvl := ℕ) c (W1 m c)]
    have hsplit := RDat.arrays_of_unscopedBufs (p := (0 : Fin 2)) (pcfgs (F := F)) adm (rdats m) (launch0.toP (Val := Elt F)).win (launch0.toP (Val := Elt F)).arr_whole c (rshare0 m c)
      (fun b => W1 m c (Proc.devRef .tc b)) (fun w => in0 m c w)
    unfold beside
    iintro ⟨⟨Hub, Hp, ⟨%W, HO⟩⟩, -, -⟩
    ihave H := hsplit $$ Hub
    icases H with ⟨Ha, Hrest⟩
    imodintro
    isplitl [Ha]; · iexact Ha
    isplitr
    · rw [Pipeline.prefHeld_of_none _ rfl]; iempintro
    isplitl [HO]
    · unfold RDat.owesAt Pipeline.owesWithin
      iexists W; isplitr; · ipureintro; exact fun _ _ => .inl trivial
      iexact HO
    isplitl [Hp]; · iexact Hp
    iexact Hrest
  hin := fun c => by
    refine BIBase.Entails.trans ?_ (Table.enter (W1 m c) c)
    iintro ⟨Hp, -, Hr⟩
    isplitl [Hr] <;> iassumption
  hout := fun c => by
    refine (Table.leave (W1 m c) c).trans ?_
    rw [Pipeline.ownSems0_none]
    iintro ⟨Hr, Hp⟩
    isplitl [Hp]; · iexact Hp
    isplitr; · iempintro
    iexact Hr
  hexit := fun c => by
    have hjoin := Pipeline.unscopedBufs_of_arrays (p := (0 : Fin 2)) (pcfgs (F := F)) adm (Ix := Unit) (Name := ℕ) (U := UR sig nD τ) (Lvl := ℕ)
      (launch0.toP (Val := Elt F)).win (launch0.toP (Val := Elt F)).arr_whole c (dats m) (share0 m c)
      (fun b => W1 m c (Proc.devRef .tc b)) (fun b => W2 m c (Proc.devRef .tc b)) (fun w => W2 m c (Proc.devRef .tc (Pipeline.arrRef spec0 w)))
      (fun w => rfl) (rest0 m c)
    rw [← Pipeline.unscopedBufs_held (Ix := Unit) (Name := ℕ) (U := UR sig nD τ) (Lvl := ℕ) c (W2 m c)]
    unfold beside
    iintro ⟨Ha, HO, Hp, Hrest⟩
    imodintro
    isplitl [Ha Hrest]
    · iapply hjoin; isplitl [Ha]
      · iapply (arrays0 m c); iexact Ha
      · iexact Hrest
    isplitl [Hp]; · iexact Hp
    unfold RDat.owesAt Pipeline.owesWithin
    icases HO with ⟨%W, -, HO⟩; iexists W; iexact HO

set_option backward.isDefEq.respectTransparency.types false in
def reg1 : RDat.RegionSeg (pcfgs (F := F)) adm (rdats m) () defs₀ Variants.none L lv 1 where
  win := (launch1.toP (Val := Elt F)).win.to₀
  block_pos := (launch1.toP (Val := Elt F)).block_pos
  stage_whole := (launch1.toP (Val := Elt F)).stage_whole
  K := PEmpty
  osem := fun k => k.elim
  ho := Pipeline.OwnSemFacts.none _
  hbody := fun c => (Combine.body (W2 m c) c).toRRel
  hwaits := RDat.hwaits_of_owed_zero (pcfgs (F := F)) adm (rdats m) () L lv 1 fun _ _ => rfl
  pre := fun c => iprop(StableHlo.held (c.tc : Thread nD τ) (Pipeline.ucRefs τ sig) (W2 m c) ∗ beside c)
  post := fun c => iprop(StableHlo.held (c.tc : Thread nD τ) (Pipeline.ucRefs τ sig) (W3 m c) ∗ beside c)
  X := fun c => iprop(∃ r, prngReg c r)
  Y := fun c => iprop(∃ r, prngReg c r)
  Z := fun c => Pipeline.unscopedRest (Ix := Unit) (Name := ℕ) (U := UR sig nD τ) (Lvl := ℕ) spec1 c (fun b => W2 m c (Proc.devRef .tc b))
  hentry := fun c => by
    rw [Pipeline.ownSems0_none, ← Pipeline.unscopedBufs_held (Ix := Unit) (Name := ℕ) (U := UR sig nD τ) (Lvl := ℕ) c (W2 m c)]
    have hsplit := RDat.arrays_of_unscopedBufs (p := (1 : Fin 2)) (pcfgs (F := F)) adm (rdats m) (launch1.toP (Val := Elt F)).win (launch1.toP (Val := Elt F)).arr_whole c (rshare1 m c)
      (fun b => W2 m c (Proc.devRef .tc b)) (fun w => in1 m c w)
    unfold beside
    iintro ⟨⟨Hub, Hp, ⟨%W, HO⟩⟩, -, -⟩
    ihave H := hsplit $$ Hub
    icases H with ⟨Ha, Hrest⟩
    imodintro
    isplitl [Ha]; · iexact Ha
    isplitr
    · rw [Pipeline.prefHeld_of_none _ rfl]; iempintro
    isplitl [HO]
    · unfold RDat.owesAt Pipeline.owesWithin
      iexists W; isplitr; · ipureintro; exact fun _ _ => .inl trivial
      iexact HO
    isplitl [Hp]; · iexact Hp
    iexact Hrest
  hin := fun c => by
    refine BIBase.Entails.trans ?_ (show (iprop(Pipeline.scopedRest spec1 c ∗ ∃ r, prngReg c r) : sProp 𝕄) ⊢ iprop(Pipeline.scopedRest spec1 c ∗ ∃ r, prngReg c r) from .rfl)
    iintro ⟨Hp, -, Hr⟩
    isplitl [Hr] <;> iassumption
  hout := fun c => by
    refine BIBase.Entails.trans (show (iprop(Pipeline.scopedRest spec1 c ∗ ∃ r, prngReg c r) : sProp 𝕄) ⊢ iprop(Pipeline.scopedRest spec1 c ∗ ∃ r, prngReg c r) from .rfl) ?_
    rw [Pipeline.ownSems0_none]
    iintro ⟨Hr, Hp⟩
    isplitl [Hp]; · iexact Hp
    isplitr; · iempintro
    iexact Hr
  hexit := fun c => by
    have hjoin := Pipeline.unscopedBufs_of_arrays (p := (1 : Fin 2)) (pcfgs (F := F)) adm (Ix := Unit) (Name := ℕ) (U := UR sig nD τ) (Lvl := ℕ)
      (launch1.toP (Val := Elt F)).win (launch1.toP (Val := Elt F)).arr_whole c (dats m) (share1 m c)
      (fun b => W2 m c (Proc.devRef .tc b)) (fun b => W3 m c (Proc.devRef .tc b)) (fun w => W3 m c (Proc.devRef .tc (Pipeline.arrRef spec1 w)))
      (fun w => rfl) (rest1 m c)
    rw [← Pipeline.unscopedBufs_held (Ix := Unit) (Name := ℕ) (U := UR sig nD τ) (Lvl := ℕ) c (W3 m c)]
    unfold beside
    iintro ⟨Ha, HO, Hp, Hrest⟩
    imodintro
    isplitl [Ha Hrest]
    · iapply hjoin; isplitl [Ha]
      · iapply (arrays1 m c); iexact Ha
      · iexact Hrest
    isplitl [Hp]; · iexact Hp
    unfold RDat.owesAt Pipeline.owesWithin
    icases HO with ⟨%W, -, HO⟩; iexists W; iexact HO

end Records

/-! ## The run -/

section Launch

variable [∀ e, Nonempty (Elt F e)]

abbrev items (c : Dev nD) : List (RDat.Seg (pcfgs (F := F)) adm (rdats m) () defs₀ Variants.none L lv) :=
  [.host (seg0 m Variants.none L lv fun _ => beside), .region (reg0 m), .region (reg1 m)]

/-- What a core's arguments and its result end as. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v3) = Combine.best (Table.table (Table.lat (W1 m c)) (Table.emb (W1 m c)))

set_option backward.isDefEq.respectTransparency.types false in
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rdats m) () cellOf_inj (emb₁ : Emb (URounds (GSem nD τ sig) Unit) 𝕄) defs₀ Variants.none L lv m ρ main
    (items m)
    (fun c Q => by
      rewrite [main_chain c, RDat.Seg.run_eq_chain,
        show (items m c).map RDat.Seg.prog = [StableHlo.seq hostOps0, Prog.lift (.customCall (Pipeline.entry 0) ()),
          Prog.lift (.customCall (Pipeline.entry 1) ())] from rfl]
      exact .rfl)
    (fun c => by simp only [items, RDat.Seg.pipes_host, RDat.Seg.pipes_region, RDat.Seg.pipes_nil]; decide) (fun _ => 0) (fun _ _ => rfl)
    (fun _ => iprop(emp)) (initOf (Pipeline.cells (Pipeline.pin (pcfgs (F := F)) adm) cellOf_inj) (Pipeline.launchToks (Pipeline.pin (pcfgs (F := F)) adm) cellOf_inj)) ?_
    (T₀ := fun c => iprop(StableHlo.held (c.tc : Thread nD τ) (Pipeline.ucRefs τ sig) (V0 m c) ∗ beside c))
    (Tₙ := fun c => StableHlo.held (c.tc : Thread nD τ) (Pipeline.ucRefs τ sig) (W3 m c))
    (hch := fun c => ⟨.rfl, .rfl, .rfl, ?_⟩) (hinit := ?_) (QY := Ends m) (hfin := fun c s' => ?_)
    (hQ := fun _ h hz => ⟨h, funext fun g => hz g (.inr (regions_no_unscoped g.2))⟩)
  · iintro Hu
    imodintro
    isplitl [Hu]
    · iapply (show (ownU (initOf (Pipeline.cells (Pipeline.pin (pcfgs (F := F)) adm) cellOf_inj) (Pipeline.launchToks (Pipeline.pin (pcfgs (F := F)) adm) cellOf_inj)) : sProp 𝕄)
        ⊢ BI.own ((emb₁ : Emb (URounds (GSem nD τ sig) Unit) 𝕄) (initOf (Pipeline.cells (Pipeline.pin (pcfgs (F := F)) adm) cellOf_inj) (Pipeline.launchToks (Pipeline.pin (pcfgs (F := F)) adm) cellOf_inj))) from .rfl)
      iexact Hu
    rw [show (bigSep Finset.univ fun _ : Dev nD => (iprop(emp) : sProp 𝕄)) = iprop(emp) from bigSep_emp_const _]
    iempintro
  · have e : (iprop(StableHlo.held (c.tc : Thread nD τ) (Pipeline.ucRefs τ sig) (W3 m c) ∗ beside c) : sProp 𝕄)
        ⊢ iprop(StableHlo.held (c.tc : Thread nD τ) (Pipeline.ucRefs τ sig) (W3 m c) ∗ ∃ W, owes (c.tc : Thread nD τ) (0 : CellTallies nD τ sig Unit) W) := by
      unfold beside
      iintro ⟨Hh, -, HO⟩
      isplitl [Hh] <;> iassumption
    exact e
  · refine Pipeline.initEach L lv fun c => ?_
    rw [Pipeline.unscopedBufs_held (Ix := Unit) (Name := ℕ) (U := UR sig nD τ) (Lvl := ℕ) c (V0 m c)]
    unfold beside
    iintro ⟨⟨Hh, -, HO, -, Hp, -⟩, -⟩
    imodintro
    isplitl [Hh]; · iexact Hh
    isplitl [Hp]; · iexists _; iexact Hp
    iexists _; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W3_arg0 m c),
        (h (Proc.devRef .tc main_arg1) (Finset.mem_filter.mpr ⟨StableHlo.devRef_mem_tcRefs main_arg1, by decide⟩)).trans (W3_arg1 m c),
        (h (Proc.devRef .tc main_v3) (Finset.mem_filter.mpr ⟨StableHlo.devRef_mem_tcRefs main_v3, by decide⟩)).trans (W3_result m c)⟩
    · iexact HSI

end Launch

end Cert.Proof.Search

end
-- ==== Proof.Argmin.lean ====
/-
  What the reference of `nearest` ends holding: the distances of every latent row to every codebook row, and along
  each row of distances the index of the least.
-/
module

public import proofs.«01_k».proof.Proof.Gen.NearestReferenceIdeal
public import Idealize.ShloMosaic.Lib.StableHlo.Run

@[expose] public section

noncomputable section

namespace Cert.Proof.Argmin

open Cert.NearestReferenceIdeal Cert.NearestReferenceIdeal.Gen
open Idealize.ShloMosaic Idealize.ShloMosaic.TcCoe Idealize.SL.Sem Idealize.ShloMosaic.StableHlo

variable {F : FTy → Type} [FloatOps F]

/-- The latents as rows. -/
def rows (x : FVec F S8x256x32x32 .f32) : FVec F S8192x256 .f32 :=
  shapeCast S8192x256 (transpose S8x32x32x256 [0, 2, 3, 1] x transposes_S8x256x32x32_S8x32x32x256_0_2_3_1) shapeCasts_S8x32x32x256_S8192x256

/-- A row's squared length. -/
def lens (x : FVec F S8192x256 .f32) : FVec F S8192 .f32 :=
  Host.reduceAdd (mulf x x) (constant S_ .f32 0x00000000#32) reducesTo_S8192x256_S8192_d1 h_S_

/-- The distances, latent row by codebook row. -/
def dists (x e : FVec F S8192x256 .f32) : FVec F S8192x8192 .f32 :=
  addf (subf (broadcastInDim S8192x8192 ![0, 1] bcast_S8192x1_S8192x8192_0_1 (broadcastInDim S8192x1 ![0] bcast_S8192_S8192x1_0 (lens x)))
      (mulf (broadcastInDim S8192x8192 ![] bcast_S_S8192x8192 (constant S_ .f32 0x40000000#32))
        (Host.dotGeneral dot_S8192x256_S256x8192_S8192x8192_1_0_0_1_n_n none x (transpose S256x8192 [1, 0] e transposes_S8192x256_S256x8192_1_0))))
    (broadcastInDim S8192x8192 ![0, 1] bcast_S1x8192_S8192x8192_0_1 (broadcastInDim S1x8192 ![1] bcast_S8192_S1x8192_1 (lens e)))

/-- Along each row the index of the least. -/
def least (d : FVec F S8192x8192 .f32) : IVec S8192 32 := fun j =>
  (Host.argReduce reducer_argmin_f32_i32 d (iotaInDim S8192x8192 32 1) (constant S_ .f32 0x7F800000#32) (constantI S_ 32 0#32) reducesTo_S8192x8192_S8192_d1 h_S_ j).2

def result (x : FVec F S8x256x32x32 .f32) (e : FVec F S8192x256 .f32) : IVec S8192x1 32 :=
  broadcastInDim S8192x1 ![0] bcast_S8192_S8192x1_0 (least (dists (rows x) e))

/-- The program's operations, in order. -/
abbrev ops : List (HloOp τ sig (Elt F)) :=
  [ unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    reshape main_v0 main_v1 (rfl : (.f32 : EltTy) = .f32) shapeCasts_S8x32x32x256_S8192x256,
    binary main_v1 main_v1 main_v2 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    unary main_arg1 main_v5 ((transpose S256x8192 [1, 0] · transposes_S8192x256_S256x8192_1_0) : (⟨S8192x256, .f32⟩ : BufTy).Contents (Elt F) → (⟨S256x8192, .f32⟩ : BufTy).Contents (Elt F)),
    binary main_v1 main_v5 main_v6 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x40000000#32),
    unary main_cst_0 main_v7 (broadcastInDim S8192x8192 ![] bcast_S_S8192x8192 : (⟨S_, .f32⟩ : BufTy).Contents (Elt F) → (⟨S8192x8192, .f32⟩ : BufTy).Contents (Elt F)),
    binary main_v7 main_v6 main_v8 (mulf : (⟨S8192x8192, .f32⟩ : BufTy).Contents (Elt F) → (⟨S8192x8192, .f32⟩ : BufTy).Contents (Elt F) → (⟨S8192x8192, .f32⟩ : BufTy).Contents (Elt F)),
    unary main_v4 main_v9 (broadcastInDim S8192x8192 ![0, 1] bcast_S8192x1_S8192x8192_0_1 : (⟨S8192x1, .f32⟩ : BufTy).Contents (Elt F) → (⟨S8192x8192, .f32⟩ : BufTy).Contents (Elt F)),
    binary main_v9 main_v8 main_v10 (subf : (⟨S8192x8192, .f32⟩ : BufTy).Contents (Elt F) → (⟨S8192x8192, .f32⟩ : BufTy).Contents (Elt F) → (⟨S8192x8192, .f32⟩ : BufTy).Contents (Elt F)),
    binary main_arg1 main_arg1 main_v11 (mulf : (⟨S8192x256, .f32⟩ : BufTy).Contents (Elt F) → (⟨S8192x256, .f32⟩ : BufTy).Contents (Elt F) → (⟨S8192x256, .f32⟩ : BufTy).Contents (Elt F)),
    nullary main_cst_1 (constant S_ .f32 0x00000000#32),
    binary main_v11 main_cst_1 main_v12 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v12 main_v13 (broadcastInDim S1x8192 ![1] bcast_S8192_S1x8192_1 : (⟨S8192, .f32⟩ : BufTy).Contents (Elt F) → (⟨S1x8192, .f32⟩ : BufTy).Contents (Elt F)),
    unary main_v13 main_v14 (broadcastInDim S8192x8192 ![0, 1] bcast_S1x8192_S8192x8192_0_1 : (⟨S1x8192, .f32⟩ : BufTy).Contents (Elt F) → (⟨S8192x8192, .f32⟩ : BufTy).Contents (Elt F)),
    binary main_v10 main_v14 main_v15 (addf : (⟨S8192x8192, .f32⟩ : BufTy).Contents (Elt F) → (⟨S8192x8192, .f32⟩ : BufTy).Contents (Elt F) → (⟨S8192x8192, .f32⟩ : BufTy).Contents (Elt F)),
    TRef.nullary (.of main_call0_v0) (iotaInDim S8192x8192 32 1),
    TRef.nullary (.of main_call0_cst) (constant S_ .f32 0x7F800000#32),
    TRef.nullary (.of main_call0_c) (constantI S_ 32 0#32),
    TRef.quaternary (.of main_v15) (.of main_call0_v0) (.of main_call0_cst) (.of main_call0_c) (.of main_call0_v1_0) (fun x y u v j => (Host.argReduce reducer_argmin_f32_i32 x y u v reducesTo_S8192x8192_S8192_d1 h_S_ j).1),
    TRef.quaternary (.of main_v15) (.of main_call0_v0) (.of main_call0_cst) (.of main_call0_c) (.of main_v16) (fun x y u v j => (Host.argReduce reducer_argmin_f32_i32 x y u v reducesTo_S8192x8192_S8192_d1 h_S_ j).2),
    unary main_v16 main_v17 (broadcastInDim S8192x1 ![0] bcast_S8192_S8192x1_0 : (⟨S8192, .i32⟩ : BufTy).Contents (Elt F) → (⟨S8192x1, .i32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub ..⟩

set_option maxRecDepth 8192 in
set_option maxHeartbeats 2000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Proof.Argmin

end
-- ==== Proof.Quiet.lean ====
/-
  The frames of `nearest`, of its idealized form and of its reference.
-/
module

public import proofs.«01_k».proof.Proof.Search
public import proofs.«01_k».proof.Proof.Argmin
public import proofs.«01_k».proof.Proof.Gen.Nearest
public import proofs.«01_k».proof.Proof.Gen.Pre_finite
public import Idealize.ShloMosaic.Lib.Claim
public import proofs.«01_k».proof.Proof.Frames

@[expose] public section

set_option maxRecDepth 16384

noncomputable section

namespace Cert.Proof.Quiet

open Cert.NearestIdeal Cert.NearestIdeal.Gen
open Idealize.ShloMosaic Idealize.ShloMosaic.TcCoe Idealize.SL.Sem

theorem frame {F : FTy → Type} [FloatOps F] [∀ e, Nonempty (Elt F e)] (m : (ℓ : Loc nD τ sig) → Buf (Elt F) ℓ) (ρ : Dev nD → PrngReg) :
    θ_run (Cert.NearestIdeal.defs (F := F)) (onTc (τ := τ) (Cert.NearestIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.NearestIdeal.defs _ _).mono (fun _ hr => ⟨fun c => ⟨(hr.1 c).1, (hr.1 c).2.1⟩, hr.2⟩) (Search.run m ρ)

/-- The printed program and its idealized form have the same bodies (no rewrite applies). -/
theorem defs₀_eq {F : FTy → Type} [FloatOps F] : Cert.Nearest.defs₀ (F := F) = Cert.NearestIdeal.defs₀ (F := F) := by
  funext p l a
  match p, l, a with
  | .tc, 0, (_, _) => rfl
  | .tc, 1, (_, _) => rfl
  | .scScalar _, 0, _ => rfl
  | .scScalar _, 1, _ => rfl
  | .scVector _ _, 0, _ => rfl
  | .scVector _ _, 1, _ => rfl

theorem defs_eq {F : FTy → Type} [FloatOps F] : Cert.Nearest.defs (F := F) = Cert.NearestIdeal.defs (F := F) :=
  congrArg (fun d => Pipeline.defs Cert.NearestIdeal.pcfgs d) defs₀_eq

theorem frame_nearest : Cert.quiescent_Nearest := fun m ρ _ => by
  rw [defs_eq]
  exact frame (F := Bits) m ρ

theorem frame_nearestIdeal : Cert.quiescent_NearestIdeal := fun m ρ _ => frame (F := Ideal) m ρ
theorem frame_nearestIdeal_finite : Cert.quiescent_NearestIdeal_pre_finite := fun m ρ _ => frame (F := Ideal) m ρ

theorem frame_reference (m : (ℓ : Loc Cert.NearestReferenceIdeal.nD Cert.NearestReferenceIdeal.τ Cert.NearestReferenceIdeal.sig) → Buf (Elt Ideal) ℓ)
    (ρ : Dev Cert.NearestReferenceIdeal.nD → PrngReg) :
    θ_run (Cert.NearestReferenceIdeal.defs (F := Ideal)) (onTc (τ := Cert.NearestReferenceIdeal.τ) (Cert.NearestReferenceIdeal.main (F := Ideal)))
      ⟨m, fun _ => 0, ρ⟩ (fun r => (∀ c : Dev Cert.NearestReferenceIdeal.nD,
        r.2.mem ((c.tc : Thread _ _).loc Cert.NearestReferenceIdeal.main_arg0) = m ((c.tc : Thread _ _).loc Cert.NearestReferenceIdeal.main_arg0)
        ∧ r.2.mem ((c.tc : Thread _ _).loc Cert.NearestReferenceIdeal.main_arg1) = m ((c.tc : Thread _ _).loc Cert.NearestReferenceIdeal.main_arg1))
        ∧ r.2.sem = fun _ => 0) :=
  θ_run_mono (Argmin.run (F := Ideal) m ρ) fun _ hr => ⟨fun c => (hr c).2, sem_eq_zero_of_no_sems (by decide) _⟩

theorem frame_referenceIdeal : Cert.quiescent_NearestReferenceIdeal := fun m ρ _ => frame_reference m ρ
theorem frame_referenceIdeal_finite : Cert.quiescent_NearestReferenceIdeal_pre_finite := fun m ρ _ => frame_reference m ρ

end Cert.Proof.Quiet

end
-- ==== Proof.Least.lean ====
/-
  The first of the least: a total order on positions by value, then by position, and how a search in tiles finds its
  least position.
-/
module

public import Mathlib.Data.EReal.Operations
public import Mathlib.Data.Prod.Lex
public import Mathlib.Data.Fintype.Lattice
public import Mathlib.Data.Finset.Fold
public import Mathlib.Data.Finset.Lattice.Fold
public import Mathlib.Data.Fintype.EquivFin
public import Mathlib.Order.Preorder.Finite

@[expose] public section

namespace Cert.Proof.Least

/-- Position `p` comes before position `c`: its value is less, or the same and it stands no later. -/
def Before (d : ℕ → EReal) (p c : ℕ) : Prop := d p < d c ∨ (d p = d c ∧ p ≤ c)

/-- What a position counts as in a search for the value `m`: its number `n` if it has that value, a number past all otherwise. -/
noncomputable def counts (v m n : EReal) : EReal := if v = m then n else ((8192 : ℕ) : EReal)

/-- Of two finds the second, if its value is less. -/
noncomputable def lesser (m0 m1 b0 b1 : EReal) : EReal := if m1 < m0 then b1 else b0

variable {d : ℕ → EReal} {p q c : ℕ}

theorem Before.le (h : Before d p c) : d p ≤ d c := h.elim le_of_lt fun h => le_of_eq h.1

theorem Before.trans (h : Before d p q) (h' : Before d q c) : Before d p c := by
  rcases h with h | h <;> rcases h' with h' | h'
  · exact .inl (h.trans h')
  · exact .inl (h'.1 ▸ h)
  · exact .inl (h.1 ▸ h')
  · exact .inr ⟨h.1.trans h'.1, h.2.trans h'.2⟩

theorem Before.antisymm (h : Before d p q) (h' : Before d q p) : p = q := by
  rcases h with h | h <;> rcases h' with h' | h'
  · exact absurd (h.trans h') (lt_irrefl _)
  · exact absurd (h'.1 ▸ h) (lt_irrefl _)
  · exact absurd (h.1 ▸ h') (lt_irrefl _)
  · exact le_antisymm h.2 h'.2

theorem before_shift (b : ℕ) (h : Before (fun k => d (b + k)) p c) : Before d (b + p) (b + c) :=
  h.imp id fun h => ⟨h.1, Nat.add_le_add_left h.2 b⟩

/-- Of finitely many positions one comes before all. -/
theorem exists_first (d : ℕ → EReal) {n : ℕ} [NeZero n] (p : Fin n → ℕ) : ∃ i, ∀ j, Before d (p i) (p j) := by
  obtain ⟨i, h⟩ := Finite.exists_min fun j => toLex (d (p j), p j)
  exact ⟨i, fun j => (Prod.Lex.toLex_le_toLex.mp (h j))⟩

/-- The least value, and the least position among those that have it, are those of the position before all. -/
theorem pick_val {n : ℕ} (p : Fin n → ℕ) (i : Fin n) (h : ∀ j, Before d (p i) (p j)) :
    Finset.univ.fold min (⊤ : EReal) (fun j => d (p j)) = d (p i) :=
  le_antisymm ((Finset.fold_min_le _).mpr (.inr ⟨i, Finset.mem_univ _, le_rfl⟩))
    ((Finset.le_fold_min _).mpr ⟨le_top, fun j _ => (h j).le⟩)

theorem pick_pos {n : ℕ} (p : Fin n → ℕ) (i : Fin n) (h : ∀ j, Before d (p i) (p j)) (hp : p i ≤ 8192) :
    Finset.univ.fold min (⊤ : EReal) (fun j => counts (d (p j)) (d (p i)) ((p j : ℕ) : EReal)) = ((p i : ℕ) : EReal) := by
  refine le_antisymm ((Finset.fold_min_le _).mpr (.inr ⟨i, Finset.mem_univ _, by unfold counts; rw [if_pos rfl]⟩))
    ((Finset.le_fold_min _).mpr ⟨le_top, fun j _ => ?_⟩)
  unfold counts
  by_cases e : d (p j) = d (p i)
  · rw [if_pos e]
    rcases h j with hj | hj
    · exact absurd e (ne_of_gt hj)
    · exact_mod_cast hj.2
  · rw [if_neg e]
    exact_mod_cast hp

/-- The search in tiles: eight tiles of 1024 positions, each searched alone, then the first four tiles' finds and the
    last four's, then those two. -/
theorem search (d : ℕ → EReal) (t : ℕ → EReal) (a : ℕ → EReal)
    (ht : ∀ n < 8, t n = Finset.univ.fold min ⊤ fun k : Fin 1024 => d (1024 * n + k.val))
    (ha : ∀ n < 8, a n = Finset.univ.fold min ⊤ (fun k : Fin 1024 => counts (d (1024 * n + k.val)) (t n) ((k.val : ℕ) : EReal))
      + ((1024 * n : ℕ) : EReal)) (m : Fin 2 → EReal) (b : Fin 2 → EReal)
    (hm : ∀ h : Fin 2, m h = Finset.univ.fold min ⊤ fun k : Fin 4 => t (4 * h.val + k.val))
    (hb : ∀ h : Fin 2, b h = Finset.univ.fold min ⊤ fun k : Fin 4 => counts (t (4 * h.val + k.val)) (m h) (a (4 * h.val + k.val))) :
    ∃ p < 8192, (∀ c < 8192, Before d p c) ∧ lesser (m 0) (m 1) (b 0) (b 1) = ((p : ℕ) : EReal) := by
  -- each tile's find
  have tile : ∀ n, n < 8 → ∃ k : Fin 1024, (∀ j : Fin 1024, Before d (1024 * n + k.val) (1024 * n + j.val)) ∧ t n = d (1024 * n + k.val)
      ∧ a n = ((1024 * n + k.val : ℕ) : EReal) := by
    intro n hn
    obtain ⟨k, hk⟩ := exists_first (fun k => d (1024 * n + k)) (fun k : Fin 1024 => k.val)
    have e : t n = d (1024 * n + k.val) := (ht n hn).trans (pick_val (d := fun k => d (1024 * n + k)) (fun k : Fin 1024 => k.val) k hk)
    refine ⟨k, fun j => before_shift _ (hk j), e, ?_⟩
    rw [ha n hn, e, pick_pos (d := fun k => d (1024 * n + k)) (fun k : Fin 1024 => k.val) k hk (by have := k.isLt; omega)]
    rw [← Nat.cast_add, Nat.add_comm]
  choose! f hf using tile
  -- each half's
  have half : ∀ h : Fin 2, ∃ n, (4 * h.val ≤ n ∧ n < 4 * h.val + 4) ∧ (∀ j : Fin 4, Before d (1024 * n + (f n).val) (1024 * (4 * h.val + j.val) + (f (4 * h.val + j.val)).val))
      ∧ m h = d (1024 * n + (f n).val) ∧ b h = ((1024 * n + (f n).val : ℕ) : EReal) := by
    intro h
    have hh := h.isLt
    have small : ∀ k : Fin 4, 4 * h.val + k.val < 8 := fun k => by have := k.isLt; omega
    obtain ⟨k, hk⟩ := exists_first d (fun k : Fin 4 => 1024 * (4 * h.val + k.val) + (f (4 * h.val + k.val)).val)
    have e : m h = d (1024 * (4 * h.val + k.val) + (f (4 * h.val + k.val)).val) := by
      rw [hm h, ← pick_val (d := d) (fun k : Fin 4 => 1024 * (4 * h.val + k.val) + (f (4 * h.val + k.val)).val) k hk]
      exact Finset.fold_congr fun j _ => (hf _ (small j)).2.1
    refine ⟨4 * h.val + k.val, ⟨by omega, by have := k.isLt; omega⟩, hk, e, ?_⟩
    rw [hb h, ← pick_pos (d := d) (fun k : Fin 4 => 1024 * (4 * h.val + k.val) + (f (4 * h.val + k.val)).val) k hk (by have := small k; have := (f (4 * h.val + k.val)).isLt; omega)]
    refine Finset.fold_congr fun j _ => ?_
    rw [(hf _ (small j)).2.1, (hf _ (small j)).2.2, e]
  -- a half's find comes before every position of the half
  have all : ∀ (h : Fin 2) (n : ℕ), (∀ j : Fin 4, Before d (1024 * n + (f n).val) (1024 * (4 * h.val + j.val) + (f (4 * h.val + j.val)).val)) →
      ∀ c, 4096 * h.val ≤ c → c < 4096 * h.val + 4096 → Before d (1024 * n + (f n).val) c := by
    intro h n hn c h0 h1
    have hh := h.isLt
    have e1 : 4 * h.val + (c / 1024 - 4 * h.val) = c / 1024 := by omega
    have b1 := hn ⟨c / 1024 - 4 * h.val, by omega⟩
    have b2 := (hf (c / 1024) (by omega)).1 ⟨c % 1024, Nat.mod_lt _ (by decide)⟩
    simp only [e1] at b1
    rw [show 1024 * (c / 1024) + c % 1024 = c from Nat.div_add_mod c 1024] at b2
    exact b1.trans b2
  obtain ⟨n0, ⟨l0, u0⟩, h0, m0, b0⟩ := half 0
  obtain ⟨n1, ⟨l1, u1⟩, h1, m1, b1⟩ := half 1
  have g0 := all 0 n0 h0
  have g1 := all 1 n1 h1
  have w0 := (f n0).isLt
  have w1 := (f n1).isLt
  simp only [Fin.val_zero, Fin.val_one] at *
  unfold lesser
  by_cases lt : m 1 < m 0
  · refine ⟨1024 * n1 + (f n1).val, by omega, fun c hc => ?_, by rw [if_pos lt, b1]⟩
    by_cases hc0 : c < 4096
    · exact .inl (lt_of_lt_of_le (m1 ▸ m0 ▸ lt) (g0 c (by omega) (by omega)).le)
    · exact g1 c (by omega) (by omega)
  · refine ⟨1024 * n0 + (f n0).val, by omega, fun c hc => ?_, by rw [if_neg lt, b0]⟩
    by_cases hc0 : c < 4096
    · exact g0 c (by omega) (by omega)
    · have b : Before d (1024 * n0 + (f n0).val) (1024 * n1 + (f n1).val) := by
        rcases lt_or_eq_of_le (not_lt.mp lt) with e | e
        · exact .inl (m0 ▸ m1 ▸ e)
        · exact .inr ⟨m0 ▸ m1 ▸ e, by omega⟩
      exact b.trans (g1 c (by omega) (by omega))

end Cert.Proof.Least
-- ==== Proof.Scores.lean ====
/-
  The distances that the kernel's first call computes, tile by tile, and what it and the second call make of them, over
  the extended reals: at every latent row the search of the tiles.
-/
module

public import proofs.«01_k».proof.Proof.Search
public import proofs.«01_k».proof.Proof.Least
public import Idealize.ShloMosaic.Lib.Pointwise
public import Idealize.ShloMosaic.PureOps.Ideal.Laws

@[expose] public section

set_option maxRecDepth 16384

noncomputable section

namespace Cert.Proof.Scores

open Cert.NearestIdeal Cert.NearestIdeal.Gen
open Idealize.ShloMosaic Idealize.SL.Sem Cert.Proof.Least Cert.Proof.Tiles

/-! ## Words -/

theorem word_top : Ideal.ofBits .f32 0x7F800000#32 = ⊤ := by simp [Ideal.ofBits, Ideal.ieee]

theorem word8192 : Ideal.ofBits .f32 0x46000000#32 = ((8192 : ℕ) : EReal) := by
  simp [Ideal.ofBits, Ideal.ieee]
  rw [← EReal.coe_mul]
  norm_num
  rfl

theorem word_two : Ideal.ofBits .f32 0x40000000#32 = ((2 : ℝ) : EReal) := by
  simp [Ideal.ofBits, Ideal.ieee]
  rw [← EReal.coe_mul]
  norm_num
theorem word_negTwo : Ideal.ofBits .f32 0xC0000000#32 = ((-2 : ℝ) : EReal) := by
  simp [Ideal.ofBits, Ideal.ieee]
  rw [← EReal.coe_mul]
  norm_num

theorem code (p : ℕ) (h : p < 8192) : Ideal.fptosi 32 ((p : ℕ) : EReal) = BitVec.ofNat 32 p := by
  rw [← EReal.coe_natCast]
  unfold Ideal.fptosi
  rw [Ideal.toIntClamped_coe, if_pos (Nat.cast_nonneg p), Int.floor_natCast]
  rw [min_eq_right (by norm_num; omega), max_eq_right (by norm_num)]
  rfl

/-! ## The two calls' values, read at a row -/

theorem pay3_at (T : FVec Ideal S1024x256 .f32) (x : FVec Ideal S8192x256 .f32) (s : FVec Ideal S8192x1 .f32) (r : Fin 8192) (c : Fin 1024) :
    k0_pay3 (F := Ideal) T x s (ix2 r c) = s (ix2 r 0) + (∑ k : Fin 256, x (ix2 r k) * (T (ix2 c k) * Ideal.ofBits .f32 0xC0000000#32))
      + ∑ k : Fin 256, T (ix2 c k) * T (ix2 c k) := by
  pointwise [k0_pay3]

/-- The columns that meet the row's value by their numbers, the others by a number past all. -/
def met (D : FVec Ideal S8192x1024 .f32) (m : FVec Ideal S8192x1 .f32) (u : FVec Ideal S1x1024 .f32) : FVec Ideal S8192x1024 .f32 :=
  select (cmpf .oeq D (broadcastTo S8192x1024 m broadcasts_S8192x1_S8192x1024))
    (broadcastTo S8192x1024 (shapeCast S1x1024 u shapeCasts_S1x1024_S1x1024) broadcasts_S1x1024_S8192x1024)
    (broadcast S8192x1024 (Scalar.ofBits (F := Ideal) .f32 0x46000000#32))

theorem met_at (D : FVec Ideal S8192x1024 .f32) (m : FVec Ideal S8192x1 .f32) (u : FVec Ideal S1x1024 .f32) (r : Fin 8192) (c : Fin 1024) :
    met D m u (ix2 r c) = counts (D (ix2 r c)) (m (ix2 r 0)) (u (ix2 0 c)) := by
  pointwise [met, counts]
  rw [word8192]

/-- The least of each row, counted on from `b`. -/
def rowMin (D : FVec Ideal S8192x1024 .f32) : FVec Ideal S8192x1 .f32 :=
  shapeCast S8192x1 (multiReduction .minimumf [1] S8192 D 0x7F800000#32 reduces_S8192x1024_S8192 (.inl rfl) rfl) shapeCasts_S8192_S8192x1

theorem rowMin_at (D : FVec Ideal S8192x1024 .f32) (r : Fin 8192) :
    rowMin D (ix2 r 0) = Finset.univ.fold min ⊤ fun c : Fin 1024 => D (ix2 r c) := by
  pointwise [rowMin]
  rw [word_top]

theorem pay4_eq (T : FVec Ideal S1024x256 .f32) (x : FVec Ideal S8192x256 .f32) (s : FVec Ideal S8192x1 .f32) :
    k0_pay4 (F := Ideal) T x s = rowMin (k0_pay3 (F := Ideal) T x s) := rfl

theorem pay5_eq (i : grid0.Coords) (T : FVec Ideal S1024x256 .f32) (x : FVec Ideal S8192x256 .f32) (s : FVec Ideal S8192x1 .f32)
    (u : FVec Ideal S1x1024 .f32) :
    k0_pay5 (F := Ideal) i T x s u = addf (rowMin (met (k0_pay3 (F := Ideal) T x s) (k0_pay4 (F := Ideal) T x s) u))
      (broadcast S8192x1 (Scalar.sitofp (F := Ideal) .f32 (Scalar.muli (BitVec.ofNat 32 (i 0).val) 1024#32))) := rfl

/-- The least of each row of four. -/
def least4 (a : FVec Ideal S8192x4 .f32) (r : Fin 8192) : EReal := Finset.univ.fold min ⊤ fun k : Fin 4 => a (ix2 r k)

theorem best_at (a b c d : FVec Ideal S8192x4 .f32) (r : Fin 8192) :
    k1_pay1 (F := Ideal) a b c d (ix2 r 0) = Ideal.fptosi 32 (lesser (least4 a r) (least4 b r)
      (Finset.univ.fold min ⊤ fun k : Fin 4 => counts (a (ix2 r k)) (least4 a r) (c (ix2 r k)))
      (Finset.univ.fold min ⊤ fun k : Fin 4 => counts (b (ix2 r k)) (least4 b r) (d (ix2 r k)))) := by
  pointwise [k1_pay1]
  rw [word_top, word8192]
  rfl

/-! ## The table's columns -/

theorem row_at (r : Fin 8192) (c : Fin 17) : Table.row (ix2 r c) = ix2 r (0 : Fin 1) := funext fun a => match a with | ⟨0, _⟩ => rfl | ⟨1, _⟩ => rfl

theorem cols_at (X : FVec Ideal S8192x17 .f32) (k : ℕ) (h) (r : Fin 8192) (j : Fin 4) (c : Fin 17) (e : c.val = k + j.val) :
    Combine.cols (F := Ideal) X k h (ix2 r j) = X (ix2 r c) := by
  unfold Combine.cols VecWindow.window
  refine congrArg X (funext fun a => Fin.ext ?_)
  match a with
  | ⟨0, _⟩ => show 0 + 1 * r.val = r.val; omega
  | ⟨1, _⟩ => show k + 1 * j.val = c.val; omega

theorem low_at (A B : FVec Ideal S8192x256 .f32) (r : Fin 8192) (c : Fin 17) (n : ℕ) (e : c.val = n) (hn : n < 8) :
    Table.table (F := Ideal) A B (ix2 r c) = Table.tmin A B n (ix2 r 0) := by
  unfold Table.table
  rw [if_pos (show ((ix2 r c : S8192x17.Idx) 1).val < 8 from by show c.val < 8; omega), row_at]
  subst e
  rfl

theorem idx_at (A B : FVec Ideal S8192x256 .f32) (r : Fin 8192) (c : Fin 17) (n : ℕ) (e : c.val = n + 8) (hn : n < 8) :
    Table.table (F := Ideal) A B (ix2 r c) = Table.tidx A B n (ix2 r 0) := by
  unfold Table.table
  rw [if_neg (show ¬((ix2 r c : S8192x17.Idx) 1).val < 8 from by show ¬c.val < 8; omega), if_pos (show ((ix2 r c : S8192x17.Idx) 1).val < 16 from by show c.val < 16; omega),
    row_at]
  have e' : c.val - 8 = n := by omega
  subst e'
  rfl

/-! ## A tile's distances and its finds -/

/-- The distance of row `r` to code `c` of tile `n`. -/
def score (A B : FVec Ideal S8192x256 .f32) (n : ℕ) (r : Fin 8192) (c : Fin 1024) : EReal :=
  k0_pay3 (F := Ideal) (Table.tile B n) A (Table.norms A) (ix2 r c)

theorem norms_at (A : FVec Ideal S8192x256 .f32) (r : Fin 8192) : Table.norms (F := Ideal) A (ix2 r 0) = ∑ k : Fin 256, A (ix2 r k) * A (ix2 r k) := by
  pointwise [Table.norms, k0_pay1]

theorem tmin_at (A B : FVec Ideal S8192x256 .f32) (n : ℕ) (r : Fin 8192) :
    Table.tmin (F := Ideal) A B n (ix2 r 0) = Finset.univ.fold min ⊤ fun c : Fin 1024 => score A B n r c := by
  show k0_pay4 (F := Ideal) (Table.tile B n) A (Table.norms A) (ix2 r 0) = _
  rw [pay4_eq]
  exact (rowMin_at _ r).trans (Finset.fold_congr fun c _ => rfl)

theorem column (c : Fin 1024) : k0_pay2 (F := Ideal) (ix2 0 c) = ((c.val : ℕ) : EReal) := by
  have h : k0_pay2 (F := Ideal) (ix2 0 c) = (((BitVec.ofNat 32 c.val).toInt : ℝ) : EReal) := by
    pointwise [k0_pay2]
    rfl
  have hc := c.isLt
  rw [h, BitVec.toInt_eq_toNat_cond, BitVec.toNat_ofNat, Nat.mod_eq_of_lt (by omega), if_pos (by omega)]
  simp

theorem base (n : ℕ) (hn : n < 8) :
    Scalar.sitofp (F := Ideal) .f32 (Scalar.muli (BitVec.ofNat 32 (grid0.coords (Table.point n) 0).val) 1024#32) = ((1024 * n : ℕ) : EReal) := by
  have e : (grid0.coords (Table.point n) 0).val = n := (Table.coord (Table.point n)).trans (Nat.mod_eq_of_lt hn)
  rw [e, Ideal.scalar_sitofp_def]
  have h : (Scalar.muli (BitVec.ofNat 32 n) 1024#32).toInt = ((1024 * n : ℕ) : ℤ) := by
    interval_cases n <;> decide
  rw [h, Int.cast_natCast]
  rfl

theorem shift_at (v : FVec Ideal S8192x1 .f32) (b : Ideal .f32) (r : Fin 8192) : addf v (broadcast S8192x1 b) (ix2 r 0) = v (ix2 r 0) + b := by
  pointwise

theorem tidx_eq (A B : FVec Ideal S8192x256 .f32) (n : ℕ) : Table.tidx (F := Ideal) A B n
    = k0_pay5 (F := Ideal) (grid0.coords (Table.point n)) (Table.tile B n) A (Table.norms A) (k0_pay2 (F := Ideal)) := rfl

theorem tmin_eq (A B : FVec Ideal S8192x256 .f32) (n : ℕ) : Table.tmin (F := Ideal) A B n = k0_pay4 (F := Ideal) (Table.tile B n) A (Table.norms A) := rfl

theorem tidx_at (A B : FVec Ideal S8192x256 .f32) (n : ℕ) (hn : n < 8) (r : Fin 8192) :
    Table.tidx (F := Ideal) A B n (ix2 r 0) = Finset.univ.fold min ⊤ (fun c : Fin 1024 => counts (score A B n r c) (Table.tmin (F := Ideal) A B n (ix2 r 0)) ((c.val : ℕ) : EReal))
      + ((1024 * n : ℕ) : EReal) := by
  rw [tidx_eq, tmin_eq, pay5_eq, base n hn]
  unfold score
  generalize k0_pay4 (F := Ideal) (Table.tile B n) A (Table.norms A) = m
  generalize k0_pay3 (F := Ideal) (Table.tile B n) A (Table.norms A) = D
  rw [shift_at, rowMin_at]
  simp only [met_at, column]

/-- The distance in full. -/
theorem score_eq (A B : FVec Ideal S8192x256 .f32) (n : ℕ) (r : Fin 8192) (c : Fin 1024) (q : Fin 8192) (hq : q.val = n * 1024 + c.val) :
    score A B n r c = (∑ k : Fin 256, A (ix2 r k) * A (ix2 r k)) + (∑ k : Fin 256, A (ix2 r k) * (B (ix2 q k) * Ideal.ofBits .f32 0xC0000000#32))
      + ∑ k : Fin 256, B (ix2 q k) * B (ix2 q k) := by
  have e : ∀ k : Fin 256, Table.tile (F := Ideal) B n (ix2 c k) = B (ix2 q k) := fun k => by
    unfold Table.tile
    refine congrArg B (funext fun a => ?_)
    match a with
    | ⟨0, _⟩ => exact Fin.ext (by show (n * 1024 + c.val) % 8192 = q.val; rw [← hq]; exact Nat.mod_eq_of_lt q.isLt)
    | ⟨1, _⟩ => rfl
  unfold score
  rw [pay3_at, norms_at]
  simp only [e]

end Cert.Proof.Scores

end
-- ==== Proof.Winner.lean ====
/-
  The reference's index along a row of distances is the position that comes before all others.
-/
module

public import proofs.«01_k».proof.Proof.Argmin
public import proofs.«01_k».proof.Proof.Least
public import Idealize.ShloMosaic.Lib.Pointwise
public import Idealize.ShloMosaic.PureOps.Ideal.Laws

@[expose] public section

set_option maxRecDepth 16384

noncomputable section

namespace Cert.Proof.Winner

open Cert.NearestReferenceIdeal Cert.NearestReferenceIdeal.Gen
open Idealize.ShloMosaic Idealize.SL.Sem Cert.Proof.Least

/-- A pair of a value and an index word goes before another: less, or the same value and no greater an index. -/
def Leq (p q : EReal × BitVec 32) : Prop := p.1 < q.1 ∨ (p.1 = q.1 ∧ p.2.toInt ≤ q.2.toInt)

theorem Leq.refl (p : EReal × BitVec 32) : Leq p p := .inr ⟨rfl, le_rfl⟩

theorem Leq.trans {p q r : EReal × BitVec 32} (h : Leq p q) (h' : Leq q r) : Leq p r := by
  rcases h with h | h <;> rcases h' with h' | h'
  · exact .inl (h.trans h')
  · exact .inl (h'.1 ▸ h)
  · exact .inl (h.1 ▸ h')
  · exact .inr ⟨h.1.trans h'.1, h.2.trans h'.2⟩

theorem Leq.antisymm {p q : EReal × BitVec 32} (h : Leq p q) (h' : Leq q p) : p.2 = q.2 := by
  rcases h with h | h <;> rcases h' with h' | h'
  · exact absurd (h.trans h') (lt_irrefl _)
  · exact absurd (h'.1 ▸ h) (lt_irrefl _)
  · exact absurd (h.1 ▸ h') (lt_irrefl _)
  · exact BitVec.eq_of_toInt_eq (le_antisymm h.2 h'.2)

/-- One step of the reference's search keeps one of the two pairs, and one that goes before both. -/
theorem step (a b : EReal × BitVec 32) : (reducer_argmin_f32_i32 (F := Ideal) a b = a ∨ reducer_argmin_f32_i32 (F := Ideal) a b = b)
    ∧ Leq (reducer_argmin_f32_i32 (F := Ideal) a b) a ∧ Leq (reducer_argmin_f32_i32 (F := Ideal) a b) b := by
  obtain ⟨x, i⟩ := a
  obtain ⟨y, j⟩ := b
  have e : reducer_argmin_f32_i32 (F := Ideal) (x, i) (y, j) = if x < y ∨ (x = y ∧ i.toInt < j.toInt) then (x, i) else (y, j) := by
    unfold reducer_argmin_f32_i32
    rcases lt_trichotomy x y with h | h | h
    · simp [Ideal.cmpf_def, Ideal.cmp, Scalar.select, IntOp.ori, IntOp.andi, h, ne_of_lt h]
    · subst h
      by_cases hj : i.toInt < j.toInt
      · have hs : i.slt j = true := by rw [BitVec.slt_eq_decide]; exact decide_eq_true hj
        simp [Ideal.cmpf_def, Ideal.cmp, Scalar.select, IntOp.ori, IntOp.andi, IntOp.cmpi, hj, hs]
      · have hs : i.slt j = false := by rw [BitVec.slt_eq_decide]; exact decide_eq_false hj
        simp [Ideal.cmpf_def, Ideal.cmp, Scalar.select, IntOp.ori, IntOp.andi, IntOp.cmpi, hj, hs]
    · simp [Ideal.cmpf_def, Ideal.cmp, Scalar.select, IntOp.ori, IntOp.andi, not_lt_of_gt h, ne_of_gt h]
  rw [e]
  by_cases h : x < y ∨ (x = y ∧ i.toInt < j.toInt)
  · rw [if_pos h]
    exact ⟨.inl rfl, .refl _, h.imp id fun h => ⟨h.1, le_of_lt h.2⟩⟩
  · rw [if_neg h]
    refine ⟨.inr rfl, ?_, .refl _⟩
    rcases lt_trichotomy x y with h' | h' | h'
    · exact absurd (.inl h') h
    · exact .inr ⟨h'.symm, not_lt.mp fun hj => h (.inr ⟨h', hj⟩)⟩
    · exact .inl h'

theorem fold_mem (L : List (EReal × BitVec 32)) (a : EReal × BitVec 32) : L.foldl (reducer_argmin_f32_i32 (F := Ideal)) a ∈ a :: L := by
  induction L generalizing a with
  | nil => simp
  | cons b L ih =>
    rw [List.foldl_cons]
    rcases List.mem_cons.mp (ih (reducer_argmin_f32_i32 (F := Ideal) a b)) with h | h
    · rw [h]
      rcases (step a b).1 with e | e <;> rw [e] <;> simp
    · exact List.mem_cons_of_mem _ (List.mem_cons_of_mem _ h)

theorem fold_leq (L : List (EReal × BitVec 32)) (a : EReal × BitVec 32) : ∀ q ∈ a :: L, Leq (L.foldl (reducer_argmin_f32_i32 (F := Ideal)) a) q := by
  induction L generalizing a with
  | nil => intro q hq; rw [List.mem_singleton.mp hq]; exact .refl _
  | cons b L ih =>
    intro q hq
    rw [List.foldl_cons]
    have h0 := ih (reducer_argmin_f32_i32 (F := Ideal) a b) _ (List.mem_cons_self)
    rcases List.mem_cons.mp hq with rfl | hq
    · exact h0.trans (step _ b).2.1
    rcases List.mem_cons.mp hq with rfl | hq
    · exact h0.trans (step a _).2.2
    · exact ih _ q (List.mem_cons_of_mem _ hq)

/-- Row `r` of the distances, position by position. -/
def line (D : FVec Ideal S8192x8192 .f32) (r : Fin 8192) (c : ℕ) : EReal := D (ix2 r (⟨c % 8192, Nat.mod_lt _ (by decide)⟩ : Fin 8192))

theorem word_toInt (c : ℕ) (h : c < 8192) : (BitVec.ofNat 32 c).toInt = c := by
  rw [BitVec.toInt_eq_toNat_cond, BitVec.toNat_ofNat, Nat.mod_eq_of_lt (by omega), if_pos (by omega)]

theorem top_word : Ideal.ofBits .f32 0x7F800000#32 = ⊤ := by simp [Ideal.ofBits, Ideal.ieee]

theorem first_top : constant (F := Ideal) S_ .f32 0x7F800000#32 (Shape.Idx.first h_S_) = (⊤ : EReal) :=
  (show constant (F := Ideal) S_ .f32 0x7F800000#32 (Shape.Idx.first h_S_) = Ideal.ofBits .f32 0x7F800000#32 from rfl).trans top_word
theorem first_zero : constantI S_ 32 0#32 (Shape.Idx.first h_S_) = 0#32 := rfl

section Fiber

variable {s t u : Shape} {axes : List (Fin s.rank)}

theorem mem_fiber (x : s.Idx → EReal) (y : s.Idx → BitVec 32) (h : s.ReducesTo axes t) (j : t.Idx) (p : EReal × BitVec 32) :
    p ∈ Host.argReduceFiber x y h j ↔ ∃ i, h.drop i = j ∧ p = (x i, y i) := by
  unfold Host.argReduceFiber
  constructor
  · intro hp
    obtain ⟨n, hn, rfl⟩ := List.mem_map.mp hp
    exact ⟨_, of_decide_eq_true (List.mem_filter.mp hn).2, rfl⟩
  · rintro ⟨i, hi, rfl⟩
    refine List.mem_map.mpr ⟨s.rowMajor i, List.mem_filter.mpr ⟨List.mem_finRange _, ?_⟩, ?_⟩
    · rw [Equiv.symm_apply_apply]
      exact decide_eq_true hi
    · rw [Equiv.symm_apply_apply]

/-- What the search along the fiber of `j` gives, when one of the fiber's pairs goes before all of them and before the start. -/
theorem argmin_at (x : FVec Ideal s .f32) (y : s.Idx → BitVec 32) (ix : FVec Ideal u .f32) (iy : u.Idx → BitVec 32) (h : s.ReducesTo axes t) (hu : 0 < u.numel) (j : t.Idx)
    (i : s.Idx) (hi : h.drop i = j) (first : ∀ k, h.drop k = j → Leq (x i, y i) (x k, y k))
    (start : Leq (ix (Shape.Idx.first hu), iy (Shape.Idx.first hu)) (x i, y i) → Leq (x i, y i) (ix (Shape.Idx.first hu), iy (Shape.Idx.first hu))) :
    (Host.argReduce (reducer_argmin_f32_i32 (F := Ideal)) x y ix iy h hu j).2 = y i := by
  rw [Ideal.argReduce_eq_reduce2, Host.reduce2_eq_foldl_fiber]
  have hL := mem_fiber x y h j
  generalize Host.argReduceFiber x y h j = L at hL
  generalize (ix (Shape.Idx.first hu), iy (Shape.Idx.first hu)) = a at start
  have m := fold_mem L a
  have l := fold_leq L a
  generalize List.foldl (reducer_argmin_f32_i32 (F := Ideal)) a L = q at m l
  have lp := l _ (List.mem_cons_of_mem _ ((hL _).mpr ⟨i, hi, rfl⟩))
  refine lp.antisymm ?_
  rcases List.mem_cons.mp m with e | e
  · subst e
    exact start lp
  · obtain ⟨k, hk, rfl⟩ := (hL _).mp e
    exact first k hk

end Fiber

theorem drop_eq (i : S8192x8192.Idx) : reducesTo_S8192x8192_S8192_d1.drop i = ix1 (i 0) := funext fun a => match a with | ⟨0, _⟩ => rfl

theorem line_eq (D : FVec Ideal S8192x8192 .f32) (r : Fin 8192) (i : S8192x8192.Idx) (h : i 0 = r) : D i = line D r (i 1).val := by
  unfold line
  refine congrArg D ?_
  rw [eq_ix2 i]
  exact congrArg₂ ix2 h (Fin.ext (Nat.mod_eq_of_lt (i 1).isLt).symm)

theorem least_eq (D : FVec Ideal S8192x8192 .f32) : Argmin.least (F := Ideal) D = fun j => (Host.argReduce (reducer_argmin_f32_i32 (F := Ideal)) D (iotaInDim S8192x8192 32 1)
    (constant (F := Ideal) S_ .f32 0x7F800000#32) (constantI S_ 32 0#32) reducesTo_S8192x8192_S8192_d1 h_S_ j).2 := rfl

/-- The reference's index of row `r`. -/
theorem least_at (D : FVec Ideal S8192x8192 .f32) (r : Fin 8192) (p : ℕ) (hp : p < 8192) (h : ∀ c < 8192, Before (line D r) p c) :
    Argmin.least (F := Ideal) D (ix1 r) = BitVec.ofNat 32 p := by
  have hD : D (ix2 r (⟨p, hp⟩ : Fin 8192)) = line D r p := line_eq D r _ rfl
  have hp2 : iotaInDim S8192x8192 32 1 (ix2 r (⟨p, hp⟩ : Fin 8192)) = BitVec.ofNat 32 p := rfl
  refine (congrFun (least_eq D) (ix1 r)).trans ((argmin_at D (iotaInDim S8192x8192 32 1) (constant (F := Ideal) S_ .f32 0x7F800000#32) (constantI S_ 32 0#32)
    reducesTo_S8192x8192_S8192_d1 h_S_ (ix1 r) (ix2 r (⟨p, hp⟩ : Fin 8192)) (drop_eq _) (fun k hk => ?_) (fun lp => ?_)).trans hp2)
  · rw [drop_eq] at hk
    have hk0 : k 0 = r := congrFun hk 0
    have hk2 : iotaInDim S8192x8192 32 1 k = BitVec.ofNat 32 (k 1).val := rfl
    rw [hD, line_eq D r k hk0, hp2, hk2]
    refine (h (k 1).val (k 1).isLt).imp id fun h => ⟨h.1, ?_⟩
    show (BitVec.ofNat 32 p).toInt ≤ (BitVec.ofNat 32 (k 1).val).toInt
    rw [word_toInt _ hp, word_toInt _ (k 1).isLt]
    exact_mod_cast h.2
  · rw [first_top, first_zero, hD, hp2] at lp ⊢
    rcases lp with lp | lp
    · exact absurd lp not_top_lt
    · have h1 : (⊤ : EReal) = line D r p := lp.1
      rcases h 0 (by decide) with h0 | h0
      · rw [← h1] at h0
        exact absurd h0 not_top_lt
      · obtain rfl : p = 0 := Nat.le_zero.mp h0.2
        exact .inr ⟨h1.symm, le_rfl⟩

end Cert.Proof.Winner

end
-- ==== Proof.Agree.lean ====
/-
  `nearest` against its reference: from finite arguments both end with, for every latent row, the first of the codes at
  the least distance.
-/
module

public import proofs.«01_k».proof.Proof.Scores
public import proofs.«01_k».proof.Proof.Winner
public import proofs.«01_k».proof.Proof.Quiet
public import proofs.«01_k».proof.Defs

@[expose] public section

set_option maxRecDepth 16384

noncomputable section

namespace Cert.Proof.Agree

open Idealize.ShloMosaic Idealize.ShloMosaic.TcCoe Idealize.SL.Sem Cert.Proof.Least

/-! ## Finite arguments -/

/-- Every entry is a real number. -/
def Reals {s : Shape} (v : FVec Ideal s .f32) : Prop := ∀ i, ∃ q : ℝ, v i = ((q : ℝ) : EReal)

theorem andi_one (a b : BitVec 1) (h : IntOp.andi a b = 1#1) : a = 1#1 ∧ b = 1#1 := by
  revert a b; decide

theorem fold_one {ι : Type} (f : ι → BitVec 1) (L : List ι) (a : BitVec 1) (h : L.foldl (fun r i => IntOp.andi r (f i)) a = 1#1) :
    a = 1#1 ∧ ∀ i ∈ L, f i = 1#1 := by
  induction L generalizing a with
  | nil => exact ⟨h, by simp⟩
  | cons b L ih =>
    obtain ⟨h0, h1⟩ := ih _ h
    obtain ⟨h2, h3⟩ := andi_one _ _ h0
    refine ⟨h2, fun i hi => ?_⟩
    rcases List.mem_cons.mp hi with rfl | hi
    · exact h3
    · exact h1 i hi

theorem reduce_one {s t u : Shape} {axes : List (Fin s.rank)} (y : s.Idx → BitVec 1) (z : u.Idx → BitVec 1) (h : s.ReducesTo axes t) (hu : 0 < u.numel) (j : t.Idx)
    (e : Host.reduce IntOp.andi y z h hu j = 1#1) (i : s.Idx) (hi : h.drop i = j) : y i = 1#1 := by
  rw [Host.reduce_eq_foldl] at e
  refine (fold_one y _ _ e).2 i (List.mem_filter.mpr ⟨List.mem_map.mpr ⟨s.rowMajor i, List.mem_finRange _, Equiv.symm_apply_apply _ _⟩, decide_eq_true hi⟩)

theorem real_of_lt (a : EReal) (h : max a (-a) < ⊤) : ∃ q : ℝ, a = ((q : ℝ) : EReal) := by
  obtain ⟨h0, h1⟩ := max_lt_iff.mp h
  induction a using EReal.rec with
  | bot => simp at h1
  | coe q => exact ⟨q, rfl⟩
  | top => simp at h0

theorem real_of_cmp {s : Shape} (v w : FVec Ideal s .f32) (hw : ∀ i, w i = Ideal.ofBits .f32 0x7F800000#32) (i : s.Idx) (h : cmpf .olt (Host.absf v) w i = 1#1) :
    ∃ q : ℝ, v i = ((q : ℝ) : EReal) := by
  refine real_of_lt _ ?_
  have e : Ideal.cmp .olt (max (v i) (-v i)) (w i) = 1#1 := h
  rw [hw, Scores.word_top] at e
  by_contra hc
  simp [Ideal.cmp, hc] at e

theorem real_args (x : FVec Ideal Cert.Pre_finite.S8x256x32x32 .f32) (e : FVec Ideal Cert.Pre_finite.S8192x256 .f32) [Cert.Pre_finite.Facts]
    (h : Cert.Pre_finite.fn (F := Ideal) x e = fun _ => 1#1) : Reals x ∧ Reals e := by
  have h0 := congrFun h (Shape.Idx.first Cert.Pre_finite.Facts.h_S_)
  unfold Cert.Pre_finite.fn at h0
  obtain ⟨hx, he⟩ := andi_one _ _ h0
  exact ⟨fun i => real_of_cmp _ _ (fun _ => rfl) i (reduce_one _ _ _ _ _ hx i (funext fun a => a.elim0)),
    fun i => real_of_cmp _ _ (fun _ => rfl) i (reduce_one _ _ _ _ _ he i (funext fun a => a.elim0))⟩

/-! ## The distances -/

theorem sum_real {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- Codes scaled by minus two beforehand, or their products by two and taken away: the same, all being real. -/
theorem scaled {n : ℕ} (a b : Fin n → EReal) (ha : ∀ k, ∃ q : ℝ, a k = ((q : ℝ) : EReal)) (hb : ∀ k, ∃ q : ℝ, b k = ((q : ℝ) : EReal)) (z : EReal) :
    z + ∑ k, a k * (b k * ((-2 : ℝ) : EReal)) = z - ((2 : ℝ) : EReal) * ∑ k, a k * b k := by
  choose f hf using ha
  choose g hg using hb
  simp only [hf, hg, ← EReal.coe_mul, sum_real]
  rw [sub_eq_add_neg, ← EReal.coe_neg]
  congr 2
  rw [Finset.mul_sum, ← Finset.sum_neg_distrib]
  exact Finset.sum_congr rfl fun k _ => by ring

section Reference

open Cert.NearestReferenceIdeal Cert.NearestReferenceIdeal.Gen

theorem lens_at (x : FVec Ideal S8192x256 .f32) (r : Fin 8192) :
    Argmin.lens (F := Ideal) x (ix1 r) = ∑ k : Fin 256, x (ix2 r k) * x (ix2 r k) := by
  pointwise [Argmin.lens]

/-- The reference's distances of `x`'s rows to `e`'s. -/
theorem dists_at (x e : FVec Ideal S8192x256 .f32) (r c : Fin 8192) :
    Argmin.dists (F := Ideal) x e (ix2 r c) = Argmin.lens (F := Ideal) x (ix1 r)
      - Ideal.ofBits .f32 0x40000000#32 * (∑ k : Fin 256, x (ix2 r k) * e (ix2 c k)) + Argmin.lens (F := Ideal) e (ix1 c) := by
  unfold Argmin.dists
  generalize Argmin.lens (F := Ideal) x = a
  generalize Argmin.lens (F := Ideal) e = b
  pointwise

theorem column_at (v : IVec S8192 32) (r : Fin 8192) : broadcastInDim S8192x1 ![0] bcast_S8192_S8192x1_0 v (ix2 r 0) = v (ix1 r) := by
  pointwise

theorem result_def (x : FVec Ideal S8x256x32x32 .f32) (e : FVec Ideal S8192x256 .f32) :
    Argmin.result (F := Ideal) x e = broadcastInDim S8192x1 ![0] bcast_S8192_S8192x1_0 (Argmin.least (F := Ideal) (Argmin.dists (Argmin.rows x) e)) := rfl

theorem result_at (x : FVec Ideal S8x256x32x32 .f32) (e : FVec Ideal S8192x256 .f32) (r : Fin 8192) :
    Argmin.result (F := Ideal) x e (ix2 r 0) = Argmin.least (F := Ideal) (Argmin.dists (Argmin.rows x) e) (ix1 r) :=
  (congrFun (result_def x e) (ix2 r 0)).trans (column_at _ r)

theorem rows_real (x : FVec Ideal S8x256x32x32 .f32) (h : Reals x) : Reals (Argmin.rows (F := Ideal) x) := fun i => by
  unfold Argmin.rows shapeCast transpose
  exact h _

end Reference

open Cert.NearestIdeal Cert.NearestIdeal.Gen

/-- The row of distances that both search. -/
abbrev row (A B : FVec Ideal S8192x256 .f32) (r : Fin 8192) : ℕ → EReal := Winner.line (Argmin.dists (F := Ideal) A B) r

theorem score_row (A B : FVec Ideal S8192x256 .f32) (hA : Reals A) (hB : Reals B) (n : ℕ) (hn : n < 8) (r : Fin 8192) (c : Fin 1024) :
    Scores.score A B n r c = row A B r (1024 * n + c.val) := by
  have hc := c.isLt
  have hq : 1024 * n + c.val < 8192 := by omega
  have e : row A B r (1024 * n + c.val) = Argmin.dists (F := Ideal) A B (ix2 r (⟨1024 * n + c.val, hq⟩ : Fin 8192)) :=
    (Winner.line_eq (Argmin.dists (F := Ideal) A B) r (ix2 r (⟨1024 * n + c.val, hq⟩ : Fin 8192)) rfl).symm
  rw [e, dists_at, lens_at, lens_at, Scores.score_eq A B n r c ⟨1024 * n + c.val, hq⟩ (by show 1024 * n + c.val = n * 1024 + c.val; omega),
    Scores.word_two, Scores.word_negTwo, scaled _ _ (fun k => hA _) (fun k => hB _)]

/-! ## The search -/

/-- The kernel's index of row `r`. -/
theorem best_at (A B : FVec Ideal S8192x256 .f32) (hA : Reals A) (hB : Reals B) (r : Fin 8192) :
    ∃ p < 8192, (∀ c < 8192, Before (row A B r) p c) ∧ Combine.best (F := Ideal) (Table.table (F := Ideal) A B) (ix2 r 0) = BitVec.ofNat 32 p := by
  have low : ∀ (n : ℕ), n < 8 → Table.tmin (F := Ideal) A B n (ix2 r 0) = Finset.univ.fold min ⊤ fun k : Fin 1024 => row A B r (1024 * n + k.val) := fun n hn => by
    rw [Scores.tmin_at]
    exact Finset.fold_congr fun c _ => score_row A B hA hB n hn r c
  have pos : ∀ (n : ℕ), n < 8 → Table.tidx (F := Ideal) A B n (ix2 r 0) = Finset.univ.fold min ⊤ (fun k : Fin 1024 =>
      counts (row A B r (1024 * n + k.val)) (Table.tmin (F := Ideal) A B n (ix2 r 0)) ((k.val : ℕ) : EReal)) + ((1024 * n : ℕ) : EReal) := fun n hn => by
    rw [Scores.tidx_at A B n hn]
    refine congrArg (· + ((1024 * n : ℕ) : EReal)) (Finset.fold_congr fun c _ => ?_)
    rw [score_row A B hA hB n hn r c]
  generalize ht : (fun n => Table.tmin (F := Ideal) A B n (ix2 r 0)) = t at *
  generalize ha : (fun n => Table.tidx (F := Ideal) A B n (ix2 r 0)) = a at *
  have ht' : ∀ n, Table.tmin (F := Ideal) A B n (ix2 r 0) = t n := fun n => congrFun ht n
  have ha' : ∀ n, Table.tidx (F := Ideal) A B n (ix2 r 0) = a n := fun n => congrFun ha n
  simp only [ht', ha'] at low pos
  obtain ⟨p, hp, first, e⟩ := search (row A B r) t a low pos
    (fun h => Finset.univ.fold min ⊤ fun k : Fin 4 => t (4 * h.val + k.val))
    (fun h => Finset.univ.fold min ⊤ fun k : Fin 4 => counts (t (4 * h.val + k.val)) (Finset.univ.fold min ⊤ fun k : Fin 4 => t (4 * h.val + k.val)) (a (4 * h.val + k.val)))
    (fun _ => rfl) (fun _ => rfl)
  refine ⟨p, hp, first, ?_⟩
  have c0 : ∀ k : Fin 4, Combine.cols (F := Ideal) (Table.table (F := Ideal) A B) 0 inb_S8192x17_S8192x4_0_0 (ix2 r k) = t (4 * (0 : Fin 2).val + k.val) := fun k => by
    rw [Scores.cols_at _ _ _ r k (⟨k.val, by omega⟩ : Fin 17) (by show k.val = 0 + k.val; omega), Scores.low_at A B r _ k.val rfl (by omega), ht']
    exact congrArg t (by show k.val = 4 * 0 + k.val; omega)
  have c1 : ∀ k : Fin 4, Combine.cols (F := Ideal) (Table.table (F := Ideal) A B) 4 inb_S8192x17_S8192x4_0_4 (ix2 r k) = t (4 * (1 : Fin 2).val + k.val) := fun k => by
    rw [Scores.cols_at _ _ _ r k (⟨4 + k.val, by omega⟩ : Fin 17) rfl, Scores.low_at A B r _ (4 + k.val) rfl (by omega), ht']
    rfl
  have c2 : ∀ k : Fin 4, Combine.cols (F := Ideal) (Table.table (F := Ideal) A B) 8 inb_S8192x17_S8192x4_0_8 (ix2 r k) = a (4 * (0 : Fin 2).val + k.val) := fun k => by
    rw [Scores.cols_at _ _ _ r k (⟨8 + k.val, by omega⟩ : Fin 17) rfl, Scores.idx_at A B r _ k.val (by show 8 + k.val = k.val + 8; omega) (by omega), ha']
    exact congrArg a (by show k.val = 4 * 0 + k.val; omega)
  have c3 : ∀ k : Fin 4, Combine.cols (F := Ideal) (Table.table (F := Ideal) A B) 12 inb_S8192x17_S8192x4_0_12 (ix2 r k) = a (4 * (1 : Fin 2).val + k.val) := fun k => by
    rw [Scores.cols_at _ _ _ r k (⟨12 + k.val, by omega⟩ : Fin 17) rfl, Scores.idx_at A B r _ (4 + k.val) (by show 12 + k.val = 4 + k.val + 8; omega) (by omega), ha']
    rfl
  unfold Combine.best
  rw [Scores.best_at]
  unfold Scores.least4
  simp only [c0, c1, c2, c3]
  exact (congrArg (Ideal.fptosi 32) e).trans (Scores.code p hp)

theorem result_eq (x : FVec Ideal S8x256x32x32 .f32) (e : FVec Ideal S8192x256 .f32) (hx : Reals x) (he : Reals e) :
    Combine.best (F := Ideal) (Table.table (F := Ideal) (Argmin.rows (F := Ideal) x) e) = Argmin.result (F := Ideal) x e := by
  have at' : ∀ r : Fin 8192, Combine.best (F := Ideal) (Table.table (F := Ideal) (Argmin.rows (F := Ideal) x) e) (ix2 r 0) = Argmin.result (F := Ideal) x e (ix2 r 0) := fun r => by
    obtain ⟨p, hp, first, e1⟩ := best_at (Argmin.rows (F := Ideal) x) e (rows_real x hx) he r
    rw [e1, result_at, Winner.least_at _ r p hp first]
  funext j
  have h1 : j 1 = (0 : Fin 1) := Subsingleton.elim (α := Fin 1) _ _
  rw [eq_ix2 j, h1]
  exact at' (j 0)

/-! ## The claim -/

theorem latents (m : (ℓ : Loc nD τ sig) → Buf (Elt Ideal) ℓ) (c : Dev nD) :
    Table.lat (Search.W1 (F := Ideal) m c) = Argmin.rows (F := Ideal) (m ((c.tc : Thread nD τ).loc main_arg0)) := by
  unfold Table.lat Search.W1 V1 hostOps0
  after_results
  rfl
theorem codes (m : (ℓ : Loc nD τ sig) → Buf (Elt Ideal) ℓ) (c : Dev nD) :
    Table.emb (Search.W1 (F := Ideal) m c) = m ((c.tc : Thread nD τ).loc main_arg1) := (V1_of m c main_arg1 (by decide)).trans rfl

theorem algebraic : Cert.algebraic_NearestIdeal_NearestReferenceIdeal_pre_finite := by
  intro m ρ m' ρ' hpre hagree
  refine ⟨fun c => Argmin.result (F := Ideal) (m ((c.tc : Thread nD τ).loc main_arg0)) (m ((c.tc : Thread nD τ).loc main_arg1)),
    (θ_run Cert.NearestIdeal.defs _ _).mono (fun r h c => ?_) (Search.run (F := Ideal) m ρ),
    (θ_run Cert.NearestReferenceIdeal.defs _ _).mono (fun r h c => ?_) (Argmin.run (F := Ideal) m' ρ')⟩
  · obtain ⟨h0, h1, h2⟩ := h.1 c
    obtain ⟨hx, he⟩ := real_args _ _ (hpre c)
    refine ⟨h2.trans ?_, h0, h1⟩
    rw [latents, codes]
    exact result_eq _ _ hx he
  · obtain ⟨h0, h1, h2⟩ := h c
    refine ⟨h0.trans ?_, h1, h2⟩
    exact congrArg₂ (Argmin.result (F := Ideal)) (hagree c).1 (hagree c).2

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Nearest
public import proofs.«01_k».proof.Proof.Gen.Nearest.Skeleton
public import proofs.«01_k».proof.Proof.Gen.Nearest.Launch
public import proofs.«01_k».proof.Proof.Gen.Nearest.Regions
public import proofs.«01_k».proof.Proof.Gen.Nearest.Points
public import proofs.«01_k».proof.Proof.Gen.NearestIdeal
public import proofs.«01_k».proof.Proof.Gen.NearestIdeal.Skeleton
public import proofs.«01_k».proof.Proof.Gen.NearestIdeal.Launch
public import proofs.«01_k».proof.Proof.Gen.NearestIdeal.Regions
public import proofs.«01_k».proof.Proof.Gen.NearestIdeal.Points
public import proofs.«01_k».proof.Proof.Gen.NearestReferenceIdeal
public import proofs.«01_k».proof.Proof.Gen.ReferenceIdeal.Run
public import proofs.«01_k».proof.Proof.Gen.Pre_idx_in_rows
public import proofs.«01_k».proof.Proof.Gen.Pre_finite
public import proofs.«01_k».proof.Proof.Frames
public import proofs.«01_k».proof.Proof.Algebraic
public import proofs.«01_k».proof.Proof.Quiet
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Nearest.Gen.facts, Cert.NearestIdeal.Gen.facts, Cert.NearestReferenceIdeal.Gen.facts, Cert.Pre_idx_in_rows.Gen.facts, Cert.Pre_finite.Gen.facts, Frames.frame_kernel, Frames.frame_kernelIdeal, Frames.frame_referenceIdeal,
  Quiet.frame_nearest, Quiet.frame_nearestIdeal, Quiet.frame_nearestIdeal_finite, Quiet.frame_referenceIdeal, Quiet.frame_referenceIdeal_finite, trivial, Algebraic.algebraic, trivial, Agree.algebraic⟩

end Cert.Proof

end
